-- ==== Defs.lean ====
def Pre_KernelIdeal [hPre_angles_from_zero : Cert.Pre_angles_from_zero.Facts] (m : (ℓ : Loc Cert.KernelIdeal.nD Cert.KernelIdeal.τ Cert.KernelIdeal.sig) → Buf (Elt Ideal) ℓ) : Prop :=
  ∀ c : Dev Cert.KernelIdeal.nD,
    (Cert.Pre_angles_from_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_angles_from_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_angles_from_zero [hPre_angles_from_zero : Cert.Pre_angles_from_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_angles_from_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_angles_from_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_KernelIdeal [hKernelIdeal : Cert.KernelIdeal.Facts] [hPre_angles_from_zero : Cert.Pre_angles_from_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_angles_from_zero [hReferenceIdeal : Cert.ReferenceIdeal.Facts] [hPre_angles_from_zero : Cert.Pre_angles_from_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_angles_from_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def algebraic_KernelIdeal_ReferenceIdeal [hKernelIdeal : Cert.KernelIdeal.Facts] [hReferenceIdeal : Cert.ReferenceIdeal.Facts] [hPre_angles_from_zero : Cert.Pre_angles_from_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernelIdeal : Cert.KernelIdeal.Facts) (hReferenceIdeal : Cert.ReferenceIdeal.Facts) (hPre_angles_from_zero : Cert.Pre_angles_from_zero.Facts),
    quiescent_KernelIdeal (hKernelIdeal := hKernelIdeal) (hPre_angles_from_zero := hPre_angles_from_zero)
    ∧ quiescent_ReferenceIdeal (hReferenceIdeal := hReferenceIdeal)
    ∧ quiescent_ReferenceIdeal_pre_angles_from_zero (hReferenceIdeal := hReferenceIdeal) (hPre_angles_from_zero := hPre_angles_from_zero)
    ∧ algebraic_KernelIdeal_ReferenceIdeal (hKernelIdeal := hKernelIdeal) (hReferenceIdeal := hReferenceIdeal) (hPre_angles_from_zero := hPre_angles_from_zero)
-- ==== Pre_angles_from_zero.lean ====
abbrev S16777216 : Shape := ⟨1, ![16777216]⟩
abbrev S16x8 : Shape := ⟨2, ![16, 8]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : FVec F S16777216 .f32) (main_arg2 : FVec F S16x8 .f32) : IVec S_ 1 × IVec S_ 1 :=
  let main_cst : FVec F S_ .f32 := constant S_ .f32 0x00000000#32
  let main_v0 : FVec F S16777216 .f32 := broadcastInDim S16777216 ![] bcast_S_S16777216 main_cst
  let main_v1 : IVec S16777216 1 := cmpf .oge main_arg0 main_v0
  let main_c : IVec S_ 1 := constantI S_ 1 1#1
  let main_v2 : IVec S_ 1 := (fun x v => Host.reduce IntOp.andi x v reducesTo_S16777216_S_d0 h_S_) main_v1 main_c
  let main_cst_0 : FVec F S_ .f32 := constant S_ .f32 0x00000000#32
  let main_v3 : FVec F S16777216 .f32 := broadcastInDim S16777216 ![] bcast_S_S16777216 main_cst_0
  let main_v4 : IVec S16777216 1 := cmpf .oge main_arg1 main_v3
  let main_c_1 : IVec S_ 1 := constantI S_ 1 1#1
  let main_v5 : IVec S_ 1 := (fun x v => Host.reduce IntOp.andi x v reducesTo_S16777216_S_d0 h_S_) main_v4 main_c_1
  (main_v2, main_v5)
-- ==== KernelIdeal.lean ====
abbrev S16777216 : Shape := ⟨1, ![16777216]⟩
abbrev S16x8 : Shape := ⟨2, ![16, 8]⟩
abbrev S128 : Shape := ⟨1, ![128]⟩
abbrev S16384 : Shape := ⟨1, ![16384]⟩
abbrev S_ : Shape := ⟨0, ![]⟩
abbrev S16 : Shape := ⟨1, ![16]⟩

abbrev nBuf : Table → Nat
  | .hbm => 5
  | .local .scVector .vmem => 4
  | _ => 0

abbrev bufTy : (tb : Table) → Fin (nBuf tb) → BufTy
  | .hbm, ⟨0, _⟩ => ⟨S16777216, .f32⟩
  | .hbm, ⟨1, _⟩ => ⟨S16777216, .f32⟩
  | .hbm, ⟨2, _⟩ => ⟨S16x8, .f32⟩
  | .hbm, ⟨3, _⟩ => ⟨S128, .f32⟩
  | .hbm, ⟨4, _⟩ => ⟨S16777216, .f32⟩
  | .local .scVector .vmem, ⟨0, _⟩ => ⟨S128, .f32⟩
  | .local .scVector .vmem, ⟨1, _⟩ => ⟨S16384, .f32⟩
  | .local .scVector .vmem, ⟨2, _⟩ => ⟨S16384, .f32⟩
  | .local .scVector .vmem, ⟨3, _⟩ => ⟨S16384, .f32⟩
  | _, _ => ⟨S16777216, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_arg0_scv : Ref sig .scVector := ⟨.hbm, 0, rfl⟩
abbrev main_arg1_scv : Ref sig .scVector := ⟨.hbm, 1, rfl⟩
abbrev main_v0_scv : Ref sig .scVector := ⟨.hbm, 3, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_27 : BitVec 32 := 0#32
  let c32_i32 : BitVec 32 := 32#32
  let v59 : BitVec 32 := Scalar.addi c0_i32_27 c32_i32
  let c1_i32 : BitVec 32 := 1#32
  ⟨c0_i32_27, v59, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_27 : BitVec 32 := 0#32
  let c1_i32 : BitVec 32 := 1#32
  let arg10 : BitVec 32 := Scf.iv c0_i32_27 c1_i32 k0_t1
  let c16384_i32 : BitVec 32 := 16384#32
  let v61 : BitVec 32 := Scalar.muli arg10 c16384_i32
  let v62 : BitVec 32 := Scalar.addi v2 v61
  ![v62.toNat]
@[reducible] def k0_t2_loop : Scf.Loop 32 :=
  let c0_i32_30 : BitVec 32 := 0#32
  let c1024_i32 : BitVec 32 := 1024#32
  let v63 : BitVec 32 := Scalar.addi c0_i32_30 c1024_i32
  let c1_i32_31 : BitVec 32 := 1#32
  ⟨c0_i32_30, v63, c1_i32_31⟩
def k0_off2 (k0_t2 : Fin k0_t2_loop.trips) : Fin 1 → Nat :=
  let c0_i32_30 : BitVec 32 := 0#32
  let c1_i32_31 : BitVec 32 := 1#32
  let arg12 : BitVec 32 := Scf.iv c0_i32_30 c1_i32_31 k0_t2
  let c16_i32 : BitVec 32 := 16#32
  let v65 : BitVec 32 := Scalar.muli arg12 c16_i32
  let v66 : Index := Scalar.indexCast v65
  ![v66.toNat]

def k0_chk1 (v87 : IVec S16 32) : Prop :=
  (∀ a x, ((![v87] : Fin 1 → IVec S16 32) a x).toNat < S128.size a)
theorem k0_idx1_inb : ∀ (v87 : IVec S16 32) (k0_hw1 : k0_chk1 v87), ∀ a x, ((![v87] : Fin 1 → IVec S16 32) a x).toNat < S128.size a := fun v87 k0_hw1 => k0_hw1
def k0_off3 (k0_t2 : Fin k0_t2_loop.trips) : Fin 1 → Nat :=
  let c0_i32_30 : BitVec 32 := 0#32
  let c1_i32_31 : BitVec 32 := 1#32
  let arg12 : BitVec 32 := Scf.iv c0_i32_30 c1_i32_31 k0_t2
  let c16_i32_35 : BitVec 32 := 16#32
  let v89 : BitVec 32 := Scalar.muli arg12 c16_i32_35
  let v90 : Index := Scalar.indexCast v89
  ![v90.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16777216 : Shape := ⟨1, ![16777216]⟩
abbrev S16x8 : Shape := ⟨2, ![16, 8]⟩
abbrev S_ : Shape := ⟨0, ![]⟩
abbrev S16777216x1 : Shape := ⟨2, ![16777216, 1]⟩
abbrev S16777216x2 : Shape := ⟨2, ![16777216, 2]⟩

abbrev nBuf : Space → Nat
  | .hbm => 62
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16x8, .f32⟩
  | .hbm, ⟨3, _⟩ => ⟨S_, .f32⟩
  | .hbm, ⟨4, _⟩ => ⟨S16777216, .f32⟩
  | .hbm, ⟨5, _⟩ => ⟨S16777216, .f32⟩
  | .hbm, ⟨6, _⟩ => ⟨S_, .f32⟩
  | .hbm, ⟨7, _⟩ => ⟨S16777216, .f32⟩
  | .hbm, ⟨8, _⟩ => ⟨S16777216, .f32⟩
  | .hbm, ⟨9, _⟩ => ⟨S_, .f32⟩
  | .hbm, ⟨10, _⟩ => ⟨S16777216, .f32⟩
  | .hbm, ⟨11, _⟩ => ⟨S16777216, .f32⟩
  | .hbm, ⟨12, _⟩ => ⟨S_, .f32⟩
  | .hbm, ⟨13, _⟩ => ⟨S16777216, .f32⟩
  | .hbm, ⟨14, _⟩ => ⟨S16777216, .f32⟩
  | .hbm, ⟨15, _⟩ => ⟨S16777216, .f32⟩
  | .hbm, ⟨16, _⟩ => ⟨S_, .i32⟩
  | .hbm, ⟨17, _⟩ => ⟨S_, .i32⟩
  | .hbm, ⟨18, _⟩ => ⟨S_, .f32⟩
  | .hbm, ⟨19, _⟩ => ⟨S16777216, .f32⟩
  | .hbm, ⟨20, _⟩ => ⟨S16777216, .f32⟩
  | .hbm, ⟨21, _⟩ => ⟨S_, .f32⟩
  | .hbm, ⟨22, _⟩ => ⟨S16777216, .f32⟩
  | .hbm, ⟨23, _⟩ => ⟨S16777216, .f32⟩
  | .hbm, ⟨24, _⟩ => ⟨S16777216, .i32⟩
  | .hbm, ⟨25, _⟩ => ⟨S16777216, .f32⟩
  | .hbm, ⟨26, _⟩ => ⟨S_, .i32⟩
  | .hbm, ⟨27, _⟩ => ⟨S_, .i32⟩
  | .hbm, ⟨28, _⟩ => ⟨S_, .f32⟩
  | .hbm, ⟨29, _⟩ => ⟨S16777216, .f32⟩
  | .hbm, ⟨30, _⟩ => ⟨S16777216, .f32⟩
  | .hbm, ⟨31, _⟩ => ⟨S_, .f32⟩
  | .hbm, ⟨32, _⟩ => ⟨S16777216, .f32⟩
  | .hbm, ⟨33, _⟩ => ⟨S16777216, .f32⟩
  | .hbm, ⟨34, _⟩ => ⟨S16777216, .i32⟩
  | .hbm, ⟨35, _⟩ => ⟨S_, .i32⟩
  | .hbm, ⟨36, _⟩ => ⟨S16777216, .i32⟩
  | .hbm, ⟨37, _⟩ => ⟨S16777216, .i1⟩
  | .hbm, ⟨38, _⟩ => ⟨S_, .i32⟩
  | .hbm, ⟨39, _⟩ => ⟨S16777216, .i32⟩
  | .hbm, ⟨40, _⟩ => ⟨S16777216, .i32⟩
  | .hbm, ⟨41, _⟩ => ⟨S16777216, .i32⟩
  | .hbm, ⟨42, _⟩ => ⟨S_, .i32⟩
  | .hbm, ⟨43, _⟩ => ⟨S16777216, .i32⟩
  | .hbm, ⟨44, _⟩ => ⟨S16777216, .i1⟩
  | .hbm, ⟨45, _⟩ => ⟨S_, .i32⟩
  | .hbm, ⟨46, _⟩ => ⟨S16777216, .i32⟩
  | .hbm, ⟨47, _⟩ => ⟨S16777216, .i32⟩
  | .hbm, ⟨48, _⟩ => ⟨S16777216, .i32⟩
  | .hbm, ⟨49, _⟩ => ⟨S16777216x1, .i32⟩
  | .hbm, ⟨50, _⟩ => ⟨S16777216x1, .i32⟩
  | .hbm, ⟨51, _⟩ => ⟨S16777216x2, .i32⟩
  | .hbm, ⟨52, _⟩ => ⟨S16777216, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S16777216, .f32⟩
  | .hbm, ⟨57, _⟩ => ⟨S16777216, .f32⟩
  | .hbm, ⟨58, _⟩ => ⟨S_, .f32⟩
  | .hbm, ⟨59, _⟩ => ⟨S16777216, .f32⟩
  | .hbm, ⟨60, _⟩ => ⟨S16777216, .f32⟩
  | .hbm, ⟨61, _⟩ => ⟨S16777216, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_c_3 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_c_5 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v12 : Ref sig .tc := ⟨.hbm, 33, rfl⟩
abbrev main_v13 : Ref sig .tc := ⟨.hbm, 34, rfl⟩
abbrev main_c_6 : Ref sig .tc := ⟨.hbm, 35, rfl⟩
abbrev main_v14 : Ref sig .tc := ⟨.hbm, 36, rfl⟩
abbrev main_v15 : Ref sig .tc := ⟨.hbm, 37, rfl⟩
abbrev main_c_7 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_8 : Ref sig .tc := ⟨.hbm, 42, rfl⟩
abbrev main_v19 : Ref sig .tc := ⟨.hbm, 43, rfl⟩
abbrev main_v20 : Ref sig .tc := ⟨.hbm, 44, rfl⟩
abbrev main_c_9 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_10 : Ref sig .tc := ⟨.hbm, 53, rfl⟩
abbrev main_cst_11 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_v28 : Ref sig .tc := ⟨.hbm, 60, rfl⟩
abbrev main_v29 : Ref sig .tc := ⟨.hbm, 61, rfl⟩

abbrev nD : Nat := 1
abbrev τ : Topo := Topo.v7x

variable {F : FTy → Type} [FloatOps F]
-- ==== Proof.Body.lean ====
/-
  One tile's run of the kernel, at a symbolic (SparseCore, vector subcore) pair: the table of sixteen by eight bins is
  fetched and exponentiated in the tile's own memory, then the tile walks its thirty-two chunks of the two angle
  arrays, each fetched, binned sixteen lanes at a time through the indexed load, and written out. What the tile leaves
  in the result is stated exactly (`outVal`), so the launch's frame and its value are one run.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Writes
public import Idealize.ShloMosaic.Lib.Tactic
public import proofs.«01_k».proof.Proof.Gen.KernelIdeal
public import proofs.«01_k».proof.Proof.Gen.KernelIdeal.Skeleton

@[expose] public section

noncomputable section

namespace Cert.Proof.Kernel

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the buffers, the value -/

variable (m : (ℓ : Loc nD τ sig) → Buf (Elt F) ℓ)

/-- `theta`, `phi`, the grid (the arguments), the flat table and the result, as locations of device `d`. -/
abbrev tLoc (d : Dev nD) : Loc nD τ sig := (SparseCore.T d).loc main_arg0
abbrev pLoc (d : Dev nD) : Loc nD τ sig := (SparseCore.T d).loc main_arg1
abbrev gLoc (d : Dev nD) : Loc nD τ sig := (SparseCore.T d).loc main_arg2
abbrev wLoc (d : Dev nD) : Loc nD τ sig := (SparseCore.T d).loc main_v0
abbrev oLoc (d : Dev nD) : Loc nD τ sig := (SparseCore.T d).loc main_v1

-- the kernel's memrefs, spelt as the body table passes them
abbrev tV : Memref sig .scVector .hbm S16777216 .f32 := Memref.whole main_arg0_scv
abbrev pV : Memref sig .scVector .hbm S16777216 .f32 := Memref.whole main_arg1_scv
abbrev wV : Memref sig .scVector .hbm S128 .f32 := Memref.whole main_v0_scv
abbrev oV : Memref sig .scVector .hbm S16777216 .f32 := Memref.whole main_v1_scv
/-- A tile's scratch: the table, a chunk of `theta`, a chunk of `phi`, a chunk of the result. -/
abbrev sW : Memref sig .scVector .vmem S128 .f32 := Memref.whole cc0_scratch0
abbrev sT : Memref sig .scVector .vmem S16384 .f32 := Memref.whole cc0_scratch1
abbrev sP : Memref sig .scVector .vmem S16384 .f32 := Memref.whole cc0_scratch2
abbrev sO : Memref sig .scVector .vmem S16384 .f32 := Memref.whole cc0_scratch3

/-- The flat table that @main hands the call: the grid's rows laid end to end. -/
def tab (d : Dev nD) : Buf (Elt F) (wLoc d) := shapeCast S128 (m (gLoc d)) shapeCasts_S16x8_S128

variable [FloatOps F]

/-- The one lane at which a lanewise operation of the kernel is read off. -/
def lane₀ : S16.Idx := fun _ => ⟨0, by decide +revert⟩

/-- One table entry's clamp to ±0.3 and exponential. -/
def clipExp (v : F .f32) : F .f32 := k0_pay6 (fun _ => v) lane₀

/-- One pair of angles' flat bin, eight times the bin of `theta` plus that of `phi`. -/
def bin (t p : F .f32) : BitVec 32 := k0_pay5 (fun _ => t) (fun _ => p) lane₀

/-- A flat bin as a position of the table. -/
def slot (v : BitVec 32) : S128.Idx := fun a => ⟨v.toNat % S128.size a, Nat.mod_lt _ (by decide +revert)⟩

/-- The table after its exponentials. -/
def expTab (d : Dev nD) : Buf (Elt F) (wLoc d) := fun j => clipExp (tab m d j)

/-- What the kernel leaves at each position of the result. -/
def outVal (d : Dev nD) : Buf (Elt F) (oLoc d) := fun n => expTab m d (slot (bin (m (tLoc d) n) (m (pLoc d) n)))

/-- What the proof asks of the launch memory: every pair of angles falls in a bin of the table. -/
def PreOK : Prop := ∀ (d : Dev nD) (n : S16777216.Idx), (bin (m (tLoc d) n) (m (pLoc d) n)).toNat < 128

theorem pay5_apply (v w : Vec F S16 .f32) (x : S16.Idx) : k0_pay5 v w x = bin (v x) (w x) := rfl
theorem pay1_apply (v : Vec F S16 .f32) (x : S16.Idx) : k0_pay1 v (Scalar.ofBits .f32 0xBE99999A#32) x = clipExp (v x) := rfl
theorem pay2_apply (v : Vec F S16 .f32) (x : S16.Idx) : k0_pay2 v x = clipExp (v x) := rfl
theorem pay3_apply (v : Vec F S16 .f32) (x : S16.Idx) : k0_pay3 v x = clipExp (v x) := rfl
theorem pay4_apply (v : Vec F S16 .f32) (x : S16.Idx) : k0_pay4 v x = clipExp (v x) := rfl
theorem pay6_apply (v : Vec F S16 .f32) (x : S16.Idx) : k0_pay6 v x = clipExp (v x) := rfl
theorem pay7_apply (v : Vec F S16 .f32) (x : S16.Idx) : k0_pay7 v x = clipExp (v x) := rfl
theorem pay8_apply (v : Vec F S16 .f32) (x : S16.Idx) : k0_pay8 v x = clipExp (v x) := rfl
theorem pay9_apply (v : Vec F S16 .f32) (x : S16.Idx) : k0_pay9 v x = clipExp (v x) := rfl

/-! ## The tile -/

section Tile

variable (d : Dev nD) (L : grid0.Coords)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- Sixteen lanes of a chunk, as the inner loop's trip `k` loads and stores them. -/
abbrev laneR (k : Fin k0_t2_loop.trips) : Rect S16384 := Rect.unit (s := S16384) (k0_off2 k) S16.size (k0_off2_inb k)
abbrev laneRo (k : Fin k0_t2_loop.trips) : Rect S16384 := Rect.unit (s := S16384) (k0_off3 k) S16.size (k0_off3_inb k)

omit [FloatOps F] in
theorem read_lane_t (ft : S16384.Idx → F .f32) (k : Fin k0_t2_loop.trips) (x : S16.Idx) :
    (sT).view.readAt (Elt F) (laneR k).toLoadRect ft x = ft ((laneR k).emb x) := rfl
omit [FloatOps F] in
theorem read_lane_p (fp : S16384.Idx → F .f32) (k : Fin k0_t2_loop.trips) (x : S16.Idx) :
    (sP).view.readAt (Elt F) (laneR k).toLoadRect fp x = fp ((laneR k).emb x) := rfl

omit [FloatOps F] in
theorem laneR_emb (k : Fin k0_t2_loop.trips) (x : S16.Idx) (a : Fin 1) : ((laneR k).emb x a).val = 16 * k.val + (x 0).val := by
  obtain rfl : a = 0 := Subsingleton.elim _ _
  show k0_off2 k 0 + 1 * (x 0).val = _
  rw [k0_off2_eq]; show 16 * k.val + 1 * (x 0).val = _; omega
omit [FloatOps F] in
theorem laneRo_emb (k : Fin k0_t2_loop.trips) (x : S16.Idx) (a : Fin 1) : ((laneRo k).emb x a).val = 16 * k.val + (x 0).val := by
  obtain rfl : a = 0 := Subsingleton.elim _ _
  show k0_off3 k 0 + 1 * (x 0).val = _
  rw [k0_off3_eq]; show 16 * k.val + 1 * (x 0).val = _; omega
omit [FloatOps F] in
theorem laneR_eq (k : Fin k0_t2_loop.trips) (x : S16.Idx) : (laneR k).emb x = (laneRo k).emb x :=
  funext fun a => Fin.ext ((laneR_emb k x a).trans (laneRo_emb k x a).symm)

omit [FloatOps F] in
/-- The indexed load of the table, lane by lane: the entry that the lane's word names. -/
theorem gather_apply (f : S128.Idx → F .f32) (v : IVec S16 32) (h : ∀ a x, ((![v] : Fin 1 → IVec S16 32) a x).toNat < S128.size a) (x : S16.Idx) :
    loadIdx (View.read (Elt F) ((sW).access (Rect.whole S128)) f) ![v] h x = f (slot (v x)) := by
  have e : View.read (Elt F) ((sW).access (Rect.whole S128)) f = f := by
    funext y
    show f ((Rect.whole S128).emb y) = f y
    exact congrArg f (funext fun a => Fin.ext (by show 0 + 1 * (y a).val = (y a).val; omega))
  rw [e]
  show f (idxAt ![v] h x) = _
  refine congrArg f (funext fun a => Fin.ext ?_)
  obtain rfl : a = 0 := Subsingleton.elim _ _
  exact (Nat.mod_eq_of_lt (h 0 x)).symm

/-- Lane `n`. -/
def ix16 (n : ℕ) (h : n < 16) : S16.Idx := fun a => ⟨n, by obtain rfl : a = 0 := Subsingleton.elim _ _; exact h⟩

omit [FloatOps F] in
/-- Storing sixteen lanes that agree with `G` extends by sixteen the prefix on which the chunk agrees with it. -/
theorem store_lanes (G fo : S16384.Idx → F .f32) (k : Fin k0_t2_loop.trips) (w : S16.Idx → F .f32)
    (hw : ∀ x, w x = G ((laneRo k).emb x)) (hfo : ∀ j : S16384.Idx, (j 0).val < 16 * k.val → fo j = G j)
    (j : S16384.Idx) (hj : (j 0).val < 16 * (k.val + 1)) :
    View.write (Elt F) ((sO).access (laneRo k)) fo w Finset.univ j = G j := by
  by_cases h : (j 0).val < 16 * k.val
  · rw [View.write_of_not_mem, hfo j h]
    intro hm
    obtain ⟨x, -, e⟩ := Finset.mem_map.mp hm
    have := laneRo_emb k x 0
    rw [show ((laneRo k).emb x 0).val = (j 0).val from congrArg (fun i : S16384.Idx => (i 0).val) e] at this
    omega
  · have hx : (j 0).val - 16 * k.val < 16 := by omega
    have e : (laneRo k).emb (ix16 _ hx) = j := funext fun a => Fin.ext (by
      rw [laneRo_emb]
      obtain rfl : a = 0 := Subsingleton.elim _ _
      show 16 * k.val + ((j 0).val - 16 * k.val) = (j 0).val
      omega)
    rw [← e]
    refine Eq.trans (View.write_emb_of_mem (Val := Elt F) (v := (sO).access (laneRo k)) fo w (Finset.mem_univ (ix16 _ hx))) ?_
    exact (cast_eq _ _).trans (hw _)

/-- The inner loop's invariant after `k` trips: the two chunks and the table as they were, and the chunk of the result
    holding its values in its first `16 k` positions. -/
def inv2 (ft fp : S16384.Idx → F .f32) (k : Nat) (_ : BitVec 32) : sProp 𝕄 :=
  iprop(((sT).view.loc (VT d L) ↦{fullShare} ft) ∗ ((sP).view.loc (VT d L) ↦{fullShare} fp)
    ∗ ((sW).view.loc (VT d L) ↦{fullShare} expTab m d)
    ∗ ∃ fo : S16384.Idx → F .f32, ⌜∀ j : S16384.Idx, (j 0).val < 16 * k → fo j = expTab m d (slot (bin (ft j) (fp j)))⌝
      ∗ ((sO).view.loc (VT d L) ↦{fullShare} fo))

theorem t2_step (ft fp : S16384.Idx → F .f32) (hb : ∀ j, (bin (ft j) (fp j)).toNat < 128) (k : Fin k0_t2_loop.trips) (a : BitVec 32) :
    inv2 m d L ft fp k.val a
      ⊢ wp frame (wpE (defs₀ (F := F)) 𝒱₀ (VT d L) none) Set.univ
          (k0_t2_body L tV (Memref.isWhole_whole _) pV (Memref.isWhole_whole _) wV (Memref.isWhole_whole _) oV (Memref.isWhole_whole _)
            sW (Memref.isWhole_whole _) sT (Memref.isWhole_whole _) sP (Memref.isWhole_whole _) sO (Memref.isWhole_whole _)
            cc0_scoped0 cc0_scoped1 cc0_scoped2 cc0_scoped3 k a)
          fun a' => inv2 m d L ft fp (k.val + 1) a' := by
  have hchk : k0_chk1 (k0_pay5 ((sT).view.readAt (Elt F) (laneR k).toLoadRect ft) ((sP).view.readAt (Elt F) (laneR k).toLoadRect fp)) := by
    intro b x
    obtain rfl : b = 0 := Subsingleton.elim _ _
    show (k0_pay5 ((sT).view.readAt (Elt F) (laneR k).toLoadRect ft) ((sP).view.readAt (Elt F) (laneR k).toLoadRect fp) x).toNat < 128
    rw [pay5_apply, read_lane_t, read_lane_p]
    exact hb _
  unfold k0_t2_body inv2
  simp only [Prog.lift, Prog.bind_op, Prog.bind_ret, Prog.pure_eq_ret]
  iintro ⟨Ht, Hp, Hw, %fo, %hfo, Ho⟩
  iapply (wp_load 𝒱₀ (VT d L) none Set.univ (m := sT) (S := Finset.univ) (Finset.subset_univ _)) $$ Ht; iintro Ht
  iapply (wp_load 𝒱₀ (VT d L) none Set.univ (m := sP) (S := Finset.univ) (Finset.subset_univ _)) $$ Hp; iintro Hp
  rw [wp_assume_of _ _ _ _ hchk]
  iapply (SparseCore.wp_vectorLoadIdx 𝒱₀ (VT d L) none Set.univ (base := sW) (S := Finset.univ) (q := fullShare) (Finset.subset_univ _)) $$ Hw; iintro Hw
  iapply (wp_load 𝒱₀ (VT d L) none Set.univ (m := sO) (S := Finset.univ) (Finset.subset_univ _)) $$ Ho; iintro Ho
  iapply (wp_store 𝒱₀ (VT d L) none Set.univ (m := sO) (r := laneRo k) (Mk := Finset.univ) (S := Finset.univ) (Finset.subset_univ _)) $$ Ho; iintro Ho
  rw [wp_ret]; imodintro
  isplitl [Ht]; · iexact Ht
  isplitl [Hp]; · iexact Hp
  isplitl [Hw]; · iexact Hw
  iexists _
  isplitr
  rotate_left
  · iexact Ho
  · ipureintro
    intro j hj
    refine store_lanes (fun j => expTab m d (slot (bin (ft j) (fp j)))) fo k _ (fun x => ?_) hfo j hj
    refine (gather_apply _ _ _ x).trans ?_
    rw [pay5_apply, read_lane_t, read_lane_p, laneR_eq]

/-- Chunk `t` of a tile's part of a long array, as the outer loop's trip `t` slices it. -/
abbrev chunkR (L : grid0.Coords) (t : Fin k0_t1_loop.trips) : Rect S16777216 := Rect.unit (s := S16777216) (k0_off1 L t) S16384.size (k0_off1_inb L t)
abbrev tCh (L : grid0.Coords) (t : Fin k0_t1_loop.trips) : Memref sig .scVector .hbm S16384 .f32 := (tV).slice (chunkR L t) (fun _ => rfl)
abbrev pCh (L : grid0.Coords) (t : Fin k0_t1_loop.trips) : Memref sig .scVector .hbm S16384 .f32 := (pV).slice (chunkR L t) (fun _ => rfl)
abbrev oCh (L : grid0.Coords) (t : Fin k0_t1_loop.trips) : Memref sig .scVector .hbm S16384 .f32 := (oV).slice (chunkR L t) (fun _ => rfl)

/-- Chunk `t` of the tile's part of the result, at `f`. -/
abbrev oChPts (t : Fin k0_t1_loop.trips) (f : Buf (Elt F) (oLoc d)) : sProp 𝕄 :=
  (oCh L t).view.loc (VT d L) ↦[(oCh L t).view.set]{fullShare} f

/-- The outer loop's invariant after `k` trips: the arrays read, at the tile's shares of them; the exponentials in the
    tile's table; the first `k` chunks of the result written, the rest as launched; the three counters at zero. -/
def inv1 (q : PosShare TreeShare) (O : CellTallies nD τ sig (HIx 1)) (W : Waits sig (HIx 1)) (k : Nat) (_ : BitVec 32) : sProp 𝕄 :=
  iprop(Transfers.MayWaits (VT d L) (none : HIx 1) O
    ∗ ((tV).view.loc (VT d L) ↦{q} m (tLoc d)) ∗ ((pV).view.loc (VT d L) ↦{q} m (pLoc d))
    ∗ ((sW).view.loc (VT d L) ↦{fullShare} expTab m d)
    ∗ (∃ f, (sT).view.loc (VT d L) ↦{fullShare} f) ∗ (∃ f, (sP).view.loc (VT d L) ↦{fullShare} f) ∗ (∃ f, (sO).view.loc (VT d L) ↦{fullShare} f)
    ∗ semVal (VT d L, SemLoc.dma cc0_scoped1.sem) 0 ∗ semVal (VT d L, SemLoc.dma cc0_scoped2.sem) 0 ∗ semVal (VT d L, SemLoc.dma cc0_scoped3.sem) 0
    ∗ (bigSep Finset.univ fun t : Fin k0_t1_loop.trips => oChPts d L t (if t.val < k then outVal m d else m (oLoc d)))
    ∗ ∃ W', ⌜∀ p ∈ W', p ∈ W ∨ p.2 = none⌝ ∗ owes (VT d L) O W')

omit [FloatOps F] in
/-- A chunk of the result written whole with what `G` holds there is the chunk at `G`. -/
theorem write_chunk (k : Fin k0_t1_loop.trips) (f G : S16777216.Idx → F .f32) (w : S16384.Idx → F .f32) (hw : ∀ y, w y = G ((chunkR L k).emb y)) :
    ∀ i ∈ (oCh L k).view.set, (oCh L k).view.writes (Elt F) f [⟨Rect.whole S16384, w⟩] i = G i := by
  intro i hi
  obtain ⟨y, rfl⟩ := View.exists_emb_of_mem_set _ hi
  have hy : (Rect.whole S16384).emb y = y := funext fun a => Fin.ext (by show 0 + 1 * (y a).val = (y a).val; omega)
  have h := View.read_writes_cons_hit (Val := Elt F) (oCh L k).view f (Rect.whole S16384) w [] y y hy
  rw [View.read_apply] at h
  have h2 := (cast_eq _ _).symm.trans h
  refine h2.trans ?_
  rw [hw y]
  rfl

theorem chunk_at (k : Fin k0_t1_loop.trips) (w : S16384.Idx → F .f32) (hw : ∀ y, w y = outVal m d ((chunkR L k).emb y)) :
    ((oCh L k).view.loc (VT d L) ↦[(oCh L k).view.set]{fullShare} (oCh L k).view.writes (Elt F) (m (oLoc d)) [⟨Rect.whole S16384, w⟩] : sProp 𝕄)
      ⊢ oChPts d L k (outVal m d) :=
  Entails.of_eq (pointsTo_congr (write_chunk L k _ _ _ hw))

omit [FloatOps F] in
theorem rest_eq (k t : Fin k0_t1_loop.trips) (h : t ≠ k) {α : Type} (x y : α) :
    (if t.val < k.val then x else y) = if t.val < k.val + 1 then x else y := by
  have h' : t.val ≠ k.val := fun e => h (Fin.ext e)
  by_cases hlt : t.val < k.val
  · rw [if_pos hlt, if_pos (by omega)]
  · rw [if_neg hlt, if_neg (by omega)]

theorem t1_step (hpre : PreOK m) (q : PosShare TreeShare) (O : CellTallies nD τ sig (HIx 1)) (W : Waits sig (HIx 1))
    (k : Fin k0_t1_loop.trips) (a : BitVec 32) :
    inv1 m d L q O W k.val a
      ⊢ wp frame (wpE (defs₀ (F := F)) 𝒱₀ (VT d L) none) Set.univ
          (k0_t1_body L tV (Memref.isWhole_whole _) pV (Memref.isWhole_whole _) wV (Memref.isWhole_whole _) oV (Memref.isWhole_whole _)
            sW (Memref.isWhole_whole _) sT (Memref.isWhole_whole _) sP (Memref.isWhole_whole _) sO (Memref.isWhole_whole _)
            cc0_scoped0 cc0_scoped1 cc0_scoped2 cc0_scoped3 k a)
          fun a' => inv1 m d L q O W (k.val + 1) a' := by
  unfold k0_t1_body inv1
  rw [SparseCore.bigSep_erase' (Finset.mem_univ k), if_neg (Nat.lt_irrefl _)]
  iintro ⟨Hmw, Ht, Hp, Hw, ⟨%ft, Hst⟩, ⟨%fp, Hsp⟩, ⟨%fo, Hso⟩, Hs1, Hs2, Hs3, ⟨Hoc, Hrest⟩, %W', %hW', HO⟩
  sl_exec (disch := exact View.amount_pos _ _ (show 0 < S16384.numel by decide))
  ihave Hst' := (Entails.of_eq (congrArg (fun f => ((sT).view.loc (VT d L) ↦{fullShare} f : sProp 𝕄))
    (show _ = (fun j => m (tLoc d) ((chunkR L k).emb j)) from View.write_whole_univ _ _ _))) $$ Hst
  ihave Hsp' := (Entails.of_eq (congrArg (fun f => ((sP).view.loc (VT d L) ↦{fullShare} f : sProp 𝕄))
    (show _ = (fun j => m (pLoc d) ((chunkR L k).emb j)) from View.write_whole_univ _ _ _))) $$ Hsp
  sl_for (inv2 m d L (fun j => m (tLoc d) ((chunkR L k).emb j)) (fun j => m (pLoc d) ((chunkR L k).emb j))) $$ [Hst' Hsp' Hw Hso]
  case region =>
    intro k' a'
    exact t2_step m d L _ _ (fun j => hpre d _) k' a'
  · unfold inv2
    isplitl [Hst']; · iexact Hst'
    isplitl [Hsp']; · iexact Hsp'
    isplitl [Hw]; · iexact Hw
    iexists fo; isplitr
    · ipureintro; intro j hj; omega
    · iexact Hso
  iintro %_ HI
  unfold inv2
  icases HI with ⟨Hst, Hsp, Hw, %fo', %hfo, Hso⟩
  sl_exec (disch := exact View.amount_pos _ _ (show 0 < S16384.numel by decide))
  have hw : ∀ y : S16384.Idx, fo' y = outVal m d ((chunkR L k).emb y) := fun y => hfo y (by
    have h : (y 0).val < 16384 := (y 0).isLt
    rw [show Scf.trips k0_t2_loop.lb k0_t2_loop.ub k0_t2_loop.st = 1024 by decide]; omega)
  ihave Hoc' := (chunk_at m d L k (t1_step.sl.dma0_2 fo') hw) $$ Hoc
  rw [wp_ret]; imodintro
  isplitl [Hmw]; · iexact Hmw
  isplitl [Ht]; · iexact Ht
  isplitl [Hp]; · iexact Hp
  isplitl [Hw]; · iexact Hw
  isplitl [Hst]; · iexists _; iexact Hst
  isplitl [Hsp]; · iexists _; iexact Hsp
  isplitl [Hso]; · iexists _; iexact Hso
  isplitl [Hs1]; · iexact Hs1
  isplitl [Hs2]; · iexact Hs2
  isplitl [Hs3]; · iexact Hs3
  isplitl [Hoc' Hrest]
  · rw [SparseCore.bigSep_erase' (Finset.mem_univ k), if_pos (Nat.lt_succ_self _)]
    isplitl [Hoc']; · iexact Hoc'
    iapply (Entails.of_eq (bigSep_congr fun t ht => congrArg (oChPts (F := F) d L t) (rest_eq k t (Finset.ne_of_mem_erase ht) _ _))); iexact Hrest
  iexists _; isplitr
  rotate_left
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact hW' p hp

/-! ## The tile's own cells and buffers, and what it is dealt -/

abbrev cell (d : Dev nD) (L : grid0.Coords) (s : DmaSem sig) : GSem nD τ sig := (VT d L, .dma s)

omit [FloatOps F] in
theorem ownSems0_V :
    (ownSems0 (VT d L) : sProp 𝕄)
      = iprop(semVal (cell d L cc0_scoped0.sem) 0 ∗ semVal (cell d L cc0_scoped1.sem) 0 ∗ semVal (cell d L cc0_scoped2.sem) 0 ∗ semVal (cell d L cc0_scoped3.sem) 0
          ∗ bigSep (((((ownCells (VT d L)).erase (cell d L cc0_scoped0.sem)).erase (cell d L cc0_scoped1.sem)).erase (cell d L cc0_scoped2.sem)).erase
              (cell d L cc0_scoped3.sem)) fun g => semVal g 0) := by
  have own (s : DmaSem sig) (h : (SemLoc.dma s : SemLoc sig).isScoped .scVector = true) : cell d L s ∈ ownCells (VT d L) := mem_ownCells.mpr ⟨rfl, h⟩
  have ne {s s' : DmaSem sig} (h : s ≠ s') : cell d L s ≠ cell d L s' := fun e => h (SemLoc.dma.inj (Prod.mk.inj e).2)
  unfold SparseCore.Cfg.ownSems0
  rw [SparseCore.bigSep_erase' (own cc0_scoped0.sem (by decide)),
    SparseCore.bigSep_erase' (Finset.mem_erase.mpr ⟨ne (by decide), own cc0_scoped1.sem (by decide)⟩),
    SparseCore.bigSep_erase' (Finset.mem_erase.mpr ⟨ne (by decide), Finset.mem_erase.mpr ⟨ne (by decide), own cc0_scoped2.sem (by decide)⟩⟩),
    SparseCore.bigSep_erase' (Finset.mem_erase.mpr ⟨ne (by decide), Finset.mem_erase.mpr ⟨ne (by decide), Finset.mem_erase.mpr ⟨ne (by decide),
      own cc0_scoped3.sem (by decide)⟩⟩⟩)]

omit [FloatOps F] in
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3)) fun b => iprop(∃ f, ((d, b) : Loc nD τ sig) ↦{fullShare} f)) := by
  have own (b : Ref sig .scVector) (h : ((Proc.scVector (cV L) (jV L)).devRef b : DevRef τ sig).owner = .proc (.scVector (cV L) (jV L))) :
      ((Proc.scVector (cV L) (jV L)).devRef b : DevRef τ sig) ∈ ownRefs (τ := τ) (.scVector (cV L) (jV L)) :=
    SparseCore.Cfg.mem_ownRefs_of_owner (p := Proc.scVector (cV L) (jV L)) h
  have ne {b b' : Ref sig .scVector} (h : b ≠ b') : ((Proc.scVector (cV L) (jV L)).devRef b : DevRef τ sig) ≠ (Proc.scVector (cV L) (jV L)).devRef b' :=
    fun e => absurd (Proc.devRef_injective _ e) h
  unfold SparseCore.Cfg.ownBufs
  refine (SparseCore.bigSep_erase' (own cc0_scratch0 rfl)).trans ?_
  rw [SparseCore.bigSep_erase' (Finset.mem_erase.mpr ⟨ne (by decide), own cc0_scratch1 rfl⟩),
    SparseCore.bigSep_erase' (Finset.mem_erase.mpr ⟨ne (by decide), Finset.mem_erase.mpr ⟨ne (by decide), own cc0_scratch2 rfl⟩⟩),
    SparseCore.bigSep_erase' (Finset.mem_erase.mpr ⟨ne (by decide), Finset.mem_erase.mpr ⟨ne (by decide), Finset.mem_erase.mpr ⟨ne (by decide),
      own cc0_scratch3 rfl⟩⟩⟩)]

/-- The number of a tile's read share, subcore-major as the kernel numbers its workers. -/
def wid (L : grid0.Coords) : ℕ := 2 * (L 1).val + (L 0).val

/-- The positions of the result that chunk `t` of a tile's part covers. -/
abbrev oSet (L : grid0.Coords) (t : Fin k0_t1_loop.trips) : Finset S16777216.Idx := (oCh L t).view.set

/-- A tile's chunks of the result, all at `f`. -/
abbrev oTilePts (f : Buf (Elt F) (oLoc d)) : sProp 𝕄 :=
  bigSep Finset.univ fun t : Fin k0_t1_loop.trips => oLoc d ↦[oSet L t]{fullShare} f

/-- What a tile is dealt: a read share of the two angle arrays and of the flat table, and its chunks of the result. -/
abbrev goPts : sProp 𝕄 :=
  iprop((tLoc d ↦{Transfers.shareTokN fullShare (wid L)} m (tLoc d)) ∗ (pLoc d ↦{Transfers.shareTokN fullShare (wid L)} m (pLoc d))
    ∗ (wLoc d ↦{Transfers.shareTokN fullShare (wid L)} tab m d) ∗ oTilePts d L (m (oLoc d)))

omit [FloatOps F] in
/-- Sixteen entries read off the table after its copy has landed. -/
theorem landed (fw : S128.Idx → F .f32) (o : Nat) (inb : ∀ a, (![o] : Fin 1 → Nat) a + S16.size a ≤ S128.size a) (x : S16.Idx) :
    View.readAt (Elt F) (sW).view (Rect.unit (s := S128) ![o] S16.size inb).toLoadRect
        (View.write (Elt F) (sW).view fw (ReadAs.same.apply (View.read (Elt F) (wV).view (tab m d))) Finset.univ) x
      = tab m d ((Rect.unit (s := S128) ![o] S16.size inb).emb x) := by
  have e : (View.write (Elt F) (sW).view fw (ReadAs.same.apply (View.read (Elt F) (wV).view (tab m d))) Finset.univ) = tab m d := View.write_whole_univ _ _ _
  rw [e]; rfl

/-- Stores that agree with the exponentials and reach every entry leave the table at its exponentials. -/
theorem table_done (f : S128.Idx → F .f32) (l : List (View.Piece (Elt F) S128 .f32)) (hl : ∀ p ∈ l, ∀ x : p.1.shape.Idx, p.2 x = expTab m d (p.1.emb x))
    (hc : ∀ k : Fin 8, ∃ p ∈ l, ∀ y : S128.Idx, 16 * k.val ≤ (y 0).val → (y 0).val < 16 * k.val + 16 → y ∈ p.1.set) :
    (sW).view.writes (Elt F) f l = expTab m d := by
  funext y
  have hy : (y 0).val < 128 := (y 0).isLt
  obtain ⟨p, hp, h⟩ := hc ⟨(y 0).val / 16, by omega⟩
  have h := View.read_writes_apply_of_pieces (Val := Elt F) (v := (sW).view) (f := f) (expTab m d) l hl y ⟨p, hp, h y (Nat.mul_div_le _ _) (by
    show (y 0).val < 16 * ((y 0).val / 16) + 16; omega)⟩
  rw [View.read_apply] at h
  exact (cast_eq _ _).symm.trans h

omit [FloatOps F] in
theorem in_piece (o : Nat) (inb : ∀ a, (![o] : Fin 1 → Nat) a + S16.size a ≤ S128.size a) (y : S128.Idx) (h : o ≤ (y 0).val) (h' : (y 0).val < o + 16) :
    y ∈ (Rect.unit (s := S128) ![o] S16.size inb).set :=
  Rect.mem_set_unit.mpr fun a => by
    obtain rfl : a = 0 := Subsingleton.elim _ _
    exact ⟨h, h'⟩

theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goPts m d L ∗ scopedBufs (VT d L) ∗ scopedSems0 (VT d L) ∗ owes (VT d L) O W)
      ⊢ wp frame (wpE (defs₀ (F := F)) 𝒱₀ (VT d L) none) Set.univ
          (cc0__body L tV (Memref.isWhole_whole _) pV (Memref.isWhole_whole _) wV (Memref.isWhole_whole _) oV (Memref.isWhole_whole _)
            sW (Memref.isWhole_whole _) sT (Memref.isWhole_whole _) sP (Memref.isWhole_whole _) sO (Memref.isWhole_whole _)
            cc0_scoped0 cc0_scoped1 cc0_scoped2 cc0_scoped3)
          fun _ => iprop(oTilePts d L (outVal m d) ∗ scopedBufs (VT d L) ∗ scopedSems0 (VT d L)
            ∗ ∃ W', ⌜∀ p ∈ W', p ∈ W ∨ p.2 = none⌝ ∗ owes (VT d L) O W') := by
  simp only [cc0__body_eq_skeleton]; unfold cc0__body_skel
  rw [(K (F := F)).scopedBufs_V hF d (cV L) (jV L), SparseCore.Cfg.scopedSems0_V (Val := Elt F) d (cV L) (jV L), ownSems0_V, ownBufs_V]
  iintro ⟨#Hlv, -, ⟨Ht, Hp, Hv, Ho⟩, ⟨⟨%fw, Hw⟩, ⟨%ft, Hst⟩, ⟨%fp, Hsp⟩, ⟨%fo, Hso⟩, Hbufs⟩, ⟨Hs0, Hs1, Hs2, Hs3, Hsems⟩, HO⟩
  ihave Hmw := ((K (F := F)).mayWaits_none (thr := VT d L) hO) $$ Hlv
  ihave Hv' := (Entails.of_eq (show (wLoc d ↦{Transfers.shareTokN fullShare (wid L)} tab m d : sProp 𝕄)
    = ((wV).view.loc (VT d L) ↦{Transfers.shareTokN fullShare (wid L)} tab m d) from rfl)) $$ Hv
  ihave Hw' := (Entails.of_eq (show ((VT d L).loc cc0_scratch0 ↦{fullShare} fw : sProp 𝕄) = ((sW).view.loc (VT d L) ↦{fullShare} fw) from rfl)) $$ Hw
  sl_exec
  have hw : (sW).view.writes (Elt F) (sW).view.junk (tile_body.sl.Hw'_8 m d L fw) = expTab m d := by
    unfold tile_body.sl.Hw'_8
    refine table_done m d _ _ ?_ fun k => ?_
    · simp only [List.forall_mem_cons, List.not_mem_nil, false_imp_iff, implies_true, and_true]
      refine ⟨fun x => ?_, fun x => ?_, fun x => ?_, fun x => ?_, fun x => ?_, fun x => ?_, fun x => ?_, fun x => ?_⟩
      · exact (pay4_apply _ x).trans (congrArg clipExp (landed m d fw 112 _ x))
      · exact (pay3_apply _ x).trans (congrArg clipExp (landed m d fw 96 _ x))
      · exact (pay2_apply _ x).trans (congrArg clipExp (landed m d fw 80 _ x))
      · exact (pay1_apply _ x).trans (congrArg clipExp (landed m d fw 64 _ x))
      · exact (pay9_apply _ x).trans (congrArg clipExp (landed m d fw 48 _ x))
      · exact (pay8_apply _ x).trans (congrArg clipExp (landed m d fw 32 _ x))
      · exact (pay7_apply _ x).trans (congrArg clipExp (landed m d fw 16 _ x))
      · exact (pay6_apply _ x).trans (congrArg clipExp (landed m d fw 0 _ x))
    · match k with
      | 0 => exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), in_piece 0 inb_S128_S16_0⟩
      | 1 => exact ⟨_, List.mem_cons_of_mem _ (List.mem_cons_of_mem _ (List.mem_cons_of_mem _ (List.mem_cons_of_mem _ (List.mem_cons_of_mem _ (List.mem_cons_of_mem _ (List.mem_cons_self)))))), in_piece 16 inb_S128_S16_16⟩
      | 2 => exact ⟨_, List.mem_cons_of_mem _ (List.mem_cons_of_mem _ (List.mem_cons_of_mem _ (List.mem_cons_of_mem _ (List.mem_cons_of_mem _ (List.mem_cons_self))))), in_piece 32 inb_S128_S16_32⟩
      | 3 => exact ⟨_, List.mem_cons_of_mem _ (List.mem_cons_of_mem _ (List.mem_cons_of_mem _ (List.mem_cons_of_mem _ (List.mem_cons_self)))), in_piece 48 inb_S128_S16_48⟩
      | 4 => exact ⟨_, List.mem_cons_of_mem _ (List.mem_cons_of_mem _ (List.mem_cons_of_mem _ (List.mem_cons_self))), in_piece 64 inb_S128_S16_64⟩
      | 5 => exact ⟨_, List.mem_cons_of_mem _ (List.mem_cons_of_mem _ (List.mem_cons_self)), in_piece 80 inb_S128_S16_80⟩
      | 6 => exact ⟨_, List.mem_cons_of_mem _ (List.mem_cons_self), in_piece 96 inb_S128_S16_96⟩
      | 7 => exact ⟨_, List.mem_cons_self, in_piece 112 inb_S128_S16_112⟩
  ihave Hw2 := (Entails.of_eq (congrArg (fun f => ((sW).view.loc (VT d L) ↦{fullShare} f : sProp 𝕄)) hw)) $$ Hw'
  sl_for (inv1 m d L (Transfers.shareTokN fullShare (wid L)) O W) $$ [Hmw Ht Hp Hw2 Hst Hsp Hso Hs1 Hs2 Hs3 Ho HO]
  case region =>
    intro k a
    exact t1_step m d L hpre _ O W k a
  · unfold inv1
    isplitl [Hmw]; · iexact Hmw
    isplitl [Ht]; · iexact Ht
    isplitl [Hp]; · iexact Hp
    isplitl [Hw2]; · iexact Hw2
    isplitl [Hst]; · iexists ft; iexact Hst
    isplitl [Hsp]; · iexists fp; iexact Hsp
    isplitl [Hso]; · iexists fo; iexact Hso
    isplitl [Hs1]; · iexact Hs1
    isplitl [Hs2]; · iexact Hs2
    isplitl [Hs3]; · iexact Hs3
    isplitl [Ho]; · iexact Ho
    iexists _; isplitr
    rotate_left
    · iexact HO
    · ipureintro; intro p hp
      rcases Finset.mem_insert.mp hp with rfl | h
      · exact .inr rfl
      · exact .inl h
  iintro %_ HI
  unfold inv1
  icases HI with ⟨-, -, -, Hw, ⟨%ft', Hst⟩, ⟨%fp', Hsp⟩, ⟨%fo', Hso⟩, Hs1, Hs2, Hs3, Ho, HO⟩
  unfold tile_body.sl.prog.cont_1
  rw [Prog.pure_eq_ret, wp_ret]; imodintro
  isplitl [Ho]
  · iapply (Entails.of_eq (bigSep_congr fun (t : Fin k0_t1_loop.trips) _ => congrArg (oChPts (F := F) d L t) (if_pos t.isLt))); iexact Ho
  isplitl [Hw Hst Hsp Hso Hbufs]
  · isplitl [Hw]; · iexists _; iexact Hw
    isplitl [Hst]; · iexists _; iexact Hst
    isplitl [Hsp]; · iexists _; iexact Hsp
    isplitl [Hso]; · iexists _; iexact Hso
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexact HO

end Tile

end Cert.Proof.Kernel
-- ==== Proof.Launch.lean ====
/-
  The whole program: @main's reshape of the grid on the TensorCore, then the one call, which deals each of the
  thirty-two tiles a read share of the two angle arrays and of the flat table and the tile's own part of the result.
  `run_main` is the run with the value: the arguments as they were, the result at `outVal`, every counter at zero.
-/
module

public import proofs.«01_k».proof.Proof.Body

@[expose] public section

noncomputable section

namespace Cert.Proof.Kernel

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type}

local notation "𝕄" => MT nD τ sig (HIx 1) (Elt F) ℕ UU ℕ

variable (m : (ℓ : Loc nD τ sig) → Buf (Elt F) ℓ) (ρ : Dev nD → PrngReg) [FloatOps F]

/-! ## What the call carries -/

theorem nCore_zero : (K (F := F)).nCore 0 = 2 := rfl
theorem nSub_zero : (K (F := F)).nSub 0 = 16 := rfl

/-- A tile's grid coordinates. -/
def coordsV (c : Fin 2) (s : Fin 16) : grid0.Coords :=
  fun | 0 => c | 1 => s | ⟨_ + 2, h⟩ => absurd h (Nat.not_lt.2 (Nat.le_add_left _ _))

/-- A SparseCore is handed what its sixteen tiles are dealt and hands back their parts of the result at `outVal`; the
    read shares stay where they went. -/
def P : (K (F := F)).Pay (nD := nD) (Val := Elt F) (Name := ℕ) (U := UU) where
  st := fun q d c => match q with
    | 0 => bigSep Finset.univ fun i : Fin 16 => goPts m d (coordsV (Fin.cast nCore_zero c) i)
  dn := fun q d c => match q with
    | 0 => bigSep Finset.univ fun i : Fin 16 => oTilePts d (coordsV (Fin.cast nCore_zero c) i) (outVal m d)
  go := fun q d c i => match q with
    | 0 => goPts m d (coordsV (Fin.cast nCore_zero c) (Fin.cast nSub_zero i))
  td := fun q d c i => match q with
    | 0 => oTilePts d (coordsV (Fin.cast nCore_zero c) (Fin.cast nSub_zero i)) (outVal m d)
  x := fun _ _ => iprop(emp)

instance P_storable : (P (F := F) m).IsStorable where
  st q d c := match q with
    | 0 => (inferInstance : BI.Storable (upEmb : UEmb _ 𝕄) (bigSep Finset.univ fun i : Fin 16 => goPts m d (coordsV (Fin.cast nCore_zero c) i)))
  dn q d c := match q with
    | 0 => (inferInstance : BI.Storable (upEmb : UEmb _ 𝕄) (bigSep Finset.univ fun i : Fin 16 => oTilePts d (coordsV (Fin.cast nCore_zero c) i) (outVal m d)))
  go q d c i := match q with
    | 0 => (inferInstance : BI.Storable (upEmb : UEmb _ 𝕄) (goPts m d (coordsV (Fin.cast nCore_zero c) (Fin.cast nSub_zero i))))
  td q d c i := match q with
    | 0 => (inferInstance : BI.Storable (upEmb : UEmb _ 𝕄) (oTilePts d (coordsV (Fin.cast nCore_zero c) (Fin.cast nSub_zero i)) (outVal m d)))

/-! ## The launch theorem's obligations -/

theorem defs₀_vector (c : Fin τ.nSC) (s : Fin τ.nSub) :
    defs₀ (F := F) (.scVector c s) 0 ()
      = SparseCore.onTile hcore0 hsub0 (fun c s => cc0__body (coordsV c s)
          tV (Memref.isWhole_whole _) pV (Memref.isWhole_whole _) wV (Memref.isWhole_whole _) oV (Memref.isWhole_whole _)
          sW (Memref.isWhole_whole _) sT (Memref.isWhole_whole _) sP (Memref.isWhole_whole _) sO (Memref.isWhole_whole _)
          cc0_scoped0 cc0_scoped1 cc0_scoped2 cc0_scoped3) ⟨⟩ c s := rfl

omit [FloatOps F] in
theorem waits_mono {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; intro p hp
    rcases hW' p hp with h | h
    · exact .inl h
    · exact .inr (.inl h)
  · iexact HO

theorem tileObl (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) facts hpre O W hO).trans (wp_mono frame _ _ fun _ => waits_mono)

theorem vecSplit : (K (F := F)).VecSplit' (P m) 0 := by
  intro d c
  show (bigSep Finset.univ fun i : Fin 16 => goPts m d (coordsV (Fin.cast nCore_zero c) i)) ⊢ |={Set.univ}=> iprop(
      (bigSep Finset.univ fun i : Fin 16 => goPts m d (coordsV (Fin.cast nCore_zero c) i))
      ∗ ((bigSep Finset.univ fun i : Fin 16 => oTilePts d (coordsV (Fin.cast nCore_zero c) i) (outVal m d))
          -∗ bigSep Finset.univ fun i : Fin 16 => oTilePts d (coordsV (Fin.cast nCore_zero c) i) (outVal m d)))
  iintro H; imodintro
  isplitl [H]; · iexact H
  iintro H; iexact H

/-! ## The result's chunks, tile by tile, are the result -/

/-- All the chunks: SparseCore, subcore, trip. -/
abbrev Chunk : Type := Fin 2 × Fin 16 × Fin k0_t1_loop.trips

/-- Where a chunk begins. -/
def start (x : Chunk) : Nat := 1048576 * x.2.1.val + 524288 * x.1.val + 16384 * x.2.2.val

theorem trips_eq : k0_t1_loop.trips = 32 := by decide

omit [FloatOps F] in
theorem mem_oSet (x : Chunk) (n : S16777216.Idx) : n ∈ oSet (coordsV x.1 x.2.1) x.2.2 ↔ start x ≤ (n 0).val ∧ (n 0).val < start x + 16384 := by
  have e : oSet (coordsV x.1 x.2.1) x.2.2 = (chunkR (coordsV x.1 x.2.1) x.2.2).set := by
    show ((View.whole (main_v1_scv : Ref sig .scVector)).slice (chunkR _ _)).set = _
    rw [View.set_slice]; exact Finset.map_refl
  have o : k0_off1 (coordsV x.1 x.2.1) x.2.2 0 = start x := by rw [k0_off1_eq]; rfl
  rw [e, Rect.mem_set_unit]
  constructor
  · intro h
    have h0 := h 0
    rw [o] at h0
    exact h0
  · intro h a
    obtain rfl : a = 0 := Subsingleton.elim _ _
    rw [o]
    exact h

theorem start_inj {x y : Chunk} (n : Nat) (hx : start x ≤ n ∧ n < start x + 16384) (hy : start y ≤ n ∧ n < start y + 16384) : x = y := by
  obtain ⟨c, i, t⟩ := x; obtain ⟨c', i', t'⟩ := y
  unfold start at hx hy
  dsimp only at hx hy
  have ht : t.val < 32 := Nat.lt_of_lt_of_eq t.isLt trips_eq
  have ht' : t'.val < 32 := Nat.lt_of_lt_of_eq t'.isLt trips_eq
  have := c.isLt; have := c'.isLt; have := i.isLt; have := i'.isLt
  have h1 : i.val = i'.val := by omega
  have h2 : c.val = c'.val := by omega
  have h3 : t.val = t'.val := by omega
  exact Prod.ext (Fin.ext h2) (Prod.ext (Fin.ext h1) (Fin.ext h3))

theorem chunks_disjoint : ∀ x ∈ (Finset.univ : Finset Chunk), ∀ y ∈ (Finset.univ : Finset Chunk), x ≠ y →
    Disjoint (oSet (coordsV x.1 x.2.1) x.2.2) (oSet (coordsV y.1 y.2.1) y.2.2) := fun x _ y _ h =>
  Finset.disjoint_left.mpr fun n hx hy => h (start_inj (n 0).val ((mem_oSet x n).mp hx) ((mem_oSet y n).mp hy))

theorem chunks_cover : (Finset.univ : Finset Chunk).biUnion (fun x => oSet (coordsV x.1 x.2.1) x.2.2) = Finset.univ := by
  rw [Finset.eq_univ_iff_forall]
  intro n
  rw [Finset.mem_biUnion]
  have hn : (n 0).val < 16777216 := (n 0).isLt
  have ht : (n 0).val / 16384 % 32 < k0_t1_loop.trips := Nat.lt_of_lt_of_eq (Nat.mod_lt _ (by decide)) trips_eq.symm
  obtain ⟨x, hx⟩ : ∃ x : Chunk, start x ≤ (n 0).val ∧ (n 0).val < start x + 16384 := by
    refine ⟨(⟨(n 0).val / 524288 % 2, by omega⟩, ⟨(n 0).val / 1048576, by omega⟩, ⟨(n 0).val / 16384 % 32, ht⟩), ?_⟩
    unfold start
    dsimp only
    omega
  exact ⟨x, Finset.mem_univ x, (mem_oSet x n).mpr hx⟩

omit [FloatOps F] in
theorem out_chunks (d : Dev nD) (f : Buf (Elt F) (oLoc d)) :
    (oLoc d ↦{fullShare} f : sProp 𝕄)
      = bigSep Finset.univ fun c : Fin 2 => bigSep Finset.univ fun i : Fin 16 => oTilePts d (coordsV c i) f := by
  have h := pointsTo_biUnion (Val := Elt F) (q := fullShare) (f := f) Finset.univ (ℓ := oLoc d) (fun x : Chunk => oSet (coordsV x.1 x.2.1) x.2.2) chunks_disjoint
    (Ix := HIx 1) (Name := ℕ) (U := UU) (Lvl := ℕ)
  rw [chunks_cover, bigSep_univ_prod] at h
  exact h.trans (bigSep_congr fun c _ => bigSep_univ_prod _)

/-! ## An array read by every tile -/

omit [FloatOps F] in
/-- The shares' numbers, tile by tile, are 0 to 31. -/
theorem shares_dealt (Φ : ℕ → sProp 𝕄) :
    bigSep (Finset.range 32) Φ = bigSep Finset.univ fun c : Fin 2 => bigSep Finset.univ fun i : Fin 16 => Φ (wid (coordsV c i)) := by
  have e : Finset.range 32 = (Finset.univ : Finset (Fin 2 × Fin 16)).image fun x => wid (coordsV x.1 x.2) := by decide
  rw [e, SparseCore.bigSep_image_of_injOn (fun x _ y _ h => ?_), bigSep_univ_prod]
  revert x y; decide

omit [FloatOps F] in
theorem read_deal {ℓ : Loc nD τ sig} (f : Buf (Elt F) ℓ) :
    (ℓ ↦{fullShare} f : sProp 𝕄)
      ⊢ iprop((ℓ ↦{Transfers.shareDrop fullShare 32} f)
          ∗ bigSep Finset.univ fun c : Fin 2 => bigSep Finset.univ fun i : Fin 16 => ℓ ↦{Transfers.shareTokN fullShare (wid (coordsV c i))} f) := by
  refine (Transfers.pointsTo_toks_range fullShare 32).1.trans (sep_mono_right (Entails.of_eq ?_))
  exact shares_dealt fun n => iprop(ℓ ↦{Transfers.shareTokN fullShare n} f)

/-! ## The launch element: the handshakes' rounds; nothing of the kernel's own -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have e {I : Type} (s : Finset I) : (bigSep s fun _ => iprop(emp)) = (iprop(emp) : sProp 𝕄) := bigSep_emp_const s
  unfold u₀
  iintro Hu
  ihave H := (ownU_pair _ _) $$ Hu
  icases H with ⟨HH, -⟩
  imodintro
  isplitl [HH]; · iexact HH
  isplitr; · rw [e]; iempintro
  unfold P; dsimp only
  rw [show (bigSep Finset.univ fun _ : Thread nD τ => bigSep Finset.univ fun _ : Fin 1 => (iprop(emp) : sProp 𝕄)) = iprop(emp) from by
    rw [bigSep_congr fun _ _ => e _, e]]
  iempintro

/-! ## @main on the TensorCore -/

abbrev t' : DevRef τ sig := Proc.devRef .tc (main_arg0 : Ref sig .tc)
abbrev p' : DevRef τ sig := Proc.devRef .tc (main_arg1 : Ref sig .tc)
abbrev g' : DevRef τ sig := Proc.devRef .tc (main_arg2 : Ref sig .tc)
abbrev w' : DevRef τ sig := Proc.devRef .tc (main_v0 : Ref sig .tc)
abbrev o' : DevRef τ sig := Proc.devRef .tc (main_v1 : Ref sig .tc)
abbrev opFlat : HloOp τ sig (Elt F) := StableHlo.reshape main_arg2 main_v0 (rfl : (.f32 : EltTy) = .f32) shapeCasts_S16x8_S128

/-- The TensorCore's arrays, all of the program's. -/
abbrev S5 : Finset (DevRef τ sig) := {t', p', g', w', o'}

omit [FloatOps F] in
theorem held_S5 (d : Dev nD) (W : Valuation τ sig (Elt F)) :
    (held (T d) S5 W : sProp 𝕄) = iprop((tLoc d ↦{fullShare} W t') ∗ (pLoc d ↦{fullShare} W p') ∗ (gLoc d ↦{fullShare} W g')
      ∗ (wLoc d ↦{fullShare} W w') ∗ oLoc d ↦{fullShare} W o') := by
  unfold held S5
  rw [SparseCore.bigSep_insert' (by decide), SparseCore.bigSep_insert' (by decide), SparseCore.bigSep_insert' (by decide),
    SparseCore.bigSep_insert' (by decide), bigSep_singleton]

/-- The launch valuation. -/
def V0 (d : Dev nD) : Valuation τ sig (Elt F) := fun b => m (d, b)

omit [FloatOps F] in
theorem unscoped_held (d : Dev nD) : (unscopedBufs d (fun b => m ((SparseCore.T d).loc b)) : sProp 𝕄) = held (T d) S5 (V0 m d) := by
  rw [held_S5]
  unfold unscopedBufs
  rw [show (Finset.univ.filter fun b : Ref sig .tc => ¬ b.isScoped) = {main_arg0, main_arg1, main_arg2, main_v0, main_v1} by decide,
    SparseCore.bigSep_insert' (by decide), SparseCore.bigSep_insert' (by decide), SparseCore.bigSep_insert' (by decide),
    SparseCore.bigSep_insert' (by decide), bigSep_singleton]
  rfl

theorem hFlat : (opFlat (F := F)).bufs ⊆ S5 := show ({g', w'} : Finset (DevRef τ sig)) ⊆ S5 by decide

omit [FloatOps F] in
/-- After the reshape: the flat table beside the launch contents. -/
theorem held_flat (d : Dev nD) :
    (held (T d) S5 ((opFlat (F := F)).result (V0 m d)) : sProp 𝕄)
      = iprop((tLoc d ↦{fullShare} m (tLoc d)) ∗ (pLoc d ↦{fullShare} m (pLoc d)) ∗ (gLoc d ↦{fullShare} m (gLoc d))
          ∗ (wLoc d ↦{fullShare} tab m d) ∗ oLoc d ↦{fullShare} m (oLoc d)) := by
  rw [held_S5]
  rw [(opFlat (F := F)).result_of_not_mem (V0 m d) (b := t') (show t' ∉ ({w'} : Finset (DevRef τ sig)) by decide),
    (opFlat (F := F)).result_of_not_mem (V0 m d) (b := p') (show p' ∉ ({w'} : Finset (DevRef τ sig)) by decide),
    (opFlat (F := F)).result_of_not_mem (V0 m d) (b := g') (show g' ∉ ({w'} : Finset (DevRef τ sig)) by decide),
    (opFlat (F := F)).result_of_not_mem (V0 m d) (b := o') (show o' ∉ ({w'} : Finset (DevRef τ sig)) by decide)]
  rfl

theorem st0_eq (d : Dev nD) : (bigSep Finset.univ fun c : Fin ((K (F := F)).nCore 0) => (P m).st 0 d c)
    = bigSep Finset.univ fun c : Fin 2 => bigSep Finset.univ fun i : Fin 16 => goPts m d (coordsV c i) := rfl
theorem dn0_eq (d : Dev nD) : (bigSep Finset.univ fun c : Fin ((K (F := F)).nCore 0) => (P m).dn 0 d c) = (oLoc d ↦{fullShare} outVal m d : sProp 𝕄) :=
  (out_chunks d (outVal m d)).symm

/-- What @main keeps while the call runs and, with the result, ends with. -/
abbrev kept (d : Dev nD) : sProp 𝕄 :=
  iprop((tLoc d ↦{Transfers.shareDrop fullShare 32} m (tLoc d)) ∗ (pLoc d ↦{Transfers.shareDrop fullShare 32} m (pLoc d)) ∗ (gLoc d ↦{fullShare} m (gLoc d)))
abbrev FIN (d : Dev nD) : sProp 𝕄 := iprop(kept m d ∗ oLoc d ↦{fullShare} outVal m d)

/-- The arrays after the reshape, dealt for the call. -/
theorem deal (d : Dev nD) :
    iprop((tLoc d ↦{fullShare} m (tLoc d)) ∗ (pLoc d ↦{fullShare} m (pLoc d)) ∗ (gLoc d ↦{fullShare} m (gLoc d))
          ∗ (wLoc d ↦{fullShare} tab m d) ∗ oLoc d ↦{fullShare} m (oLoc d))
      ⊢ (iprop(kept m d ∗ bigSep Finset.univ fun c : Fin 2 => bigSep Finset.univ fun i : Fin 16 => goPts m d (coordsV c i)) : sProp 𝕄) := by
  unfold goPts
  simp only [bigSep_sep']
  iintro ⟨Ht, Hp, Hg, Hw, Ho⟩
  ihave Ht' := (read_deal (m (tLoc d))) $$ Ht
  ihave Hp' := (read_deal (m (pLoc d))) $$ Hp
  ihave Hw' := (read_deal (tab m d)) $$ Hw
  ihave Ho' := (Entails.of_eq (out_chunks d (m (oLoc d)))) $$ Ho
  icases Ht' with ⟨Ht, Hts⟩
  icases Hp' with ⟨Hp, Hps⟩
  icases Hw' with ⟨-, Hws⟩
  isplitl [Ht Hp Hg]
  · isplitl [Ht]; · iexact Ht
    isplitl [Hp]; · iexact Hp
    iexact Hg
  isplitl [Hts]; · iexact Hts
  isplitl [Hps]; · iexact Hps
  isplitl [Hws]; · iexact Hws
  iexact Ho'

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opFlat) (S := S5) hFlat (V := V0 m d)) $$ [Hb Hheld]
  · isplitl [Hb]; · iexact Hb
    iexact Hheld
  iintro ⟨Hb, Hheld⟩
  ihave Hh := ((Entails.of_eq (held_flat (F := F) m d)).trans (deal m d)) $$ Hheld
  icases Hh with ⟨Hk, Hgo⟩
  rw [wp_ret]; imodintro
  iapply ((K (F := F)).wp_run (D (F := F)) 𝒱 (EH := EH) (P := P m) κ d 0) $$ [Hst Hk Hgo Hb Hts]
  isplitr; · iexact Hctx
  isplitl [Hst]; · iexact Hst
  isplitl [Hgo]; · rw [st0_eq]; iexact Hgo
  iintro ⟨Hst, Hdn⟩
  ihave Ho := (Entails.of_eq (dn0_eq m d)) $$ Hdn
  imodintro
  isplitl [Hst]; · iexact Hst
  isplitr [Hb Hts]
  · isplitl [Hk]; · iexact Hk
    iexact Ho
  isplitl [Hb] <;> iassumption

def fq (d : Dev nD) (s' : Phys nD τ sig (Elt F)) : Prop :=
  s'.mem.mem (oLoc d) = outVal m d ∧ s'.mem.mem (tLoc d) = m (tLoc d) ∧ s'.mem.mem (pLoc d) = m (pLoc d) ∧ s'.mem.mem (gLoc d) = m (gLoc d)

theorem hfin (d : Dev nD) (s' : Phys nD τ sig (Elt F)) : iprop(FIN m d ∗ SI s') ⊢ (⌜fq m d s'⌝ : sProp 𝕄) := by
  iintro ⟨⟨⟨Ht, Hp, Hg⟩, Ho⟩, HSI⟩
  ihave H := (persistent_entails_right (SI_pointsTo_agree (st := s') (ℓ := tLoc d) (I := Finset.univ) (q := Transfers.shareDrop fullShare 32) (f := m (tLoc d)))) $$ [HSI Ht]
  · isplitl [HSI] <;> iassumption
  icases H with ⟨%h1, HSI, -⟩
  ihave H := (persistent_entails_right (SI_pointsTo_agree (st := s') (ℓ := pLoc d) (I := Finset.univ) (q := Transfers.shareDrop fullShare 32) (f := m (pLoc d)))) $$ [HSI Hp]
  · isplitl [HSI] <;> iassumption
  icases H with ⟨%h2, HSI, -⟩
  ihave H := (persistent_entails_right (SI_pointsTo_agree (st := s') (ℓ := gLoc d) (I := Finset.univ) (q := fullShare) (f := m (gLoc d)))) $$ [HSI Hg]
  · isplitl [HSI] <;> iassumption
  icases H with ⟨%h3, HSI, -⟩
  ihave H := (SI_pointsTo_agree (st := s') (ℓ := oLoc d) (I := Finset.univ) (q := fullShare) (f := outVal m d)) $$ [HSI Ho]
  · isplitl [HSI] <;> iassumption
  icases H with %h4
  ipureintro
  exact ⟨funext fun i => h4 i (Finset.mem_univ i), funext fun i => h1 i (Finset.mem_univ i), funext fun i => h2 i (Finset.mem_univ i),
    funext fun i => h3 i (Finset.mem_univ i)⟩

/-! ## The program's run -/

/-- What a run ends in: on every device the result at `outVal` and the arguments as they were; every counter at zero. -/
def QC : PUnit × MemSt nD τ sig (Elt F) → Prop := fun r =>
  (∀ c : Dev nD, r.2.mem (oLoc c) = outVal m c ∧ r.2.mem (tLoc c) = m (tLoc c) ∧ r.2.mem (pLoc c) = m (pLoc c) ∧ r.2.mem (gLoc c) = m (gLoc c))
    ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Kernel

end
-- ==== Proof.Bins.lean ====
/-
  One angle's bin over the extended reals, two ways: the kernel truncates the scaled angle to an integer and caps it,
  the reference takes the floor, clamps it between zero and the cap and converts. On an angle that is not negative,
  infinity included, the two are the same number, at most the cap.
-/
module

public import Idealize.ShloMosaic.PureOps
public import Idealize.ShloMosaic.PureOps.Ideal
public import Idealize.ShloMosaic.Lib.IdealHost

@[expose] public section

noncomputable section

namespace Cert.Proof.Value

open Idealize.ShloMosaic

/-- The kernel's bin of a scaled angle: truncated, then capped. -/
def cappedBin (K : ℕ) (X : EReal) : BitVec 32 := IntOp.minsi (Ideal.fptosi 32 X) (BitVec.ofNat 32 K)

/-- The reference's bin of a scaled angle: the floor, clamped between zero and the cap, converted. -/
def clampedBin (K : ℕ) (X : EReal) : BitVec 32 :=
  Ideal.fptosi 32 (min ((((BitVec.ofNat 32 K).toInt : ℝ)) : EReal)
    (max ((((BitVec.ofNat 32 0).toInt : ℝ)) : EReal) (Ideal.liftRound Int.floor X)))

/-- A small natural number is its own word's signed reading. -/
theorem toInt_small (n : ℕ) (h : n ≤ 15) : (BitVec.ofNat 32 n).toInt = (n : ℤ) := by
  interval_cases n <;> rfl

/-- The smaller of a word and a cap, the word read as an integer. -/
theorem minsi_cap (z : ℤ) (K : ℕ) (hK : K ≤ 15) (h0 : 0 ≤ z) (h1 : z ≤ 2147483647) :
    IntOp.minsi (BitVec.ofInt 32 z) (BitVec.ofNat 32 K) = BitVec.ofNat 32 (min z.toNat K) := by
  have hz : (BitVec.ofInt 32 z).toInt = z := by
    rw [BitVec.toInt_ofInt, Int.bmod_eq_of_le] <;> omega
  unfold IntOp.minsi
  rw [BitVec.slt_eq_decide, hz, toInt_small K hK]
  by_cases hlt : z < (K : ℤ)
  · rw [if_pos (by simpa using hlt), Nat.min_eq_left (by omega)]
    apply BitVec.eq_of_toInt_eq
    rw [hz, toInt_small _ (by omega)]
    omega
  · rw [if_neg (by simpa using hlt), Nat.min_eq_right (by omega)]

/-- Converting a small natural number keeps it. -/
theorem fptosi_small (n : ℕ) (h : n ≤ 15) : Ideal.fptosi 32 (((n : ℝ)) : EReal) = BitVec.ofNat 32 n := by
  unfold Ideal.fptosi
  rw [Ideal.toIntClamped_coe, if_pos (Nat.cast_nonneg n), Int.floor_natCast]
  apply BitVec.eq_of_toInt_eq
  rw [toInt_small n h, BitVec.toInt_ofInt, max_eq_right (by norm_num), min_eq_right (by norm_num; omega),
    Int.bmod_eq_of_le] <;> omega

/-- The two bins are one small number. -/
theorem bins_agree (K : ℕ) (hK : K ≤ 15) (X : EReal) (hX : 0 ≤ X) :
    ∃ k ≤ K, cappedBin K X = BitVec.ofNat 32 k ∧ clampedBin K X = BitVec.ofNat 32 k := by
  unfold cappedBin clampedBin
  rw [toInt_small K hK, toInt_small 0 (by omega)]
  induction X with
  | bot => exact absurd hX (by simp)
  | top =>
    refine ⟨K, le_rfl, ?_, ?_⟩
    · unfold Ideal.fptosi
      rw [Ideal.toIntClamped_top]
      exact (minsi_cap _ K hK (by norm_num) (by norm_num)).trans (by congr 1; norm_num; omega)
    · show Ideal.fptosi 32 (min _ (max _ ⊤)) = _
      rw [max_top_right, min_top_right]
      exact fptosi_small K hK
  | coe r =>
    have hr : 0 ≤ r := by exact_mod_cast hX
    have hf : 0 ≤ ⌊r⌋ := Int.floor_nonneg.mpr hr
    refine ⟨min ⌊r⌋.toNat K, Nat.min_le_right _ _, ?_, ?_⟩
    · unfold Ideal.fptosi
      rw [Ideal.toIntClamped_coe, if_pos hr]
      refine (minsi_cap _ K hK ?_ ?_).trans ?_
      · norm_num; omega
      · norm_num
      · congr 1; norm_num; omega
    · show Ideal.fptosi 32 (min _ (max _ ((((⌊r⌋ : ℤ) : ℝ)) : EReal))) = _
      have e : min (((((K : ℕ) : ℤ) : ℝ)) : EReal) (max (((((0 : ℕ) : ℤ) : ℝ)) : EReal) ((((⌊r⌋ : ℤ) : ℝ)) : EReal))
          = ((((min ⌊r⌋.toNat K : ℕ)) : ℝ) : EReal) := by
        rw [← EReal.coe_strictMono.monotone.map_max, ← EReal.coe_strictMono.monotone.map_min]
        congr 1
        rw [← Int.cast_max, ← Int.cast_min]
        have : min ((K : ℕ) : ℤ) (max ((0 : ℕ) : ℤ) ⌊r⌋) = ((min ⌊r⌋.toNat K : ℕ) : ℤ) := by omega
        exact_mod_cast congrArg (fun z : ℤ => (z : ℝ)) this
      rw [e]
      exact fptosi_small _ (by omega)

/-- A number that is not negative over a positive one, times a positive one, is not negative. -/
theorem scaled_nonneg (t : EReal) (ht : 0 ≤ t) (c k : ℝ) (hc : 0 < c) (hk : 0 ≤ k) :
    0 ≤ Ideal.div t (c : EReal) * (k : EReal) := by
  rw [Ideal.div_coe hc.ne']
  exact mul_nonneg (mul_nonneg ht (by exact_mod_cast (by positivity : (0 : ℝ) ≤ 1 / c))) (by exact_mod_cast hk)

/-- Two pi as the programs write it. -/
theorem lit_twoPi : ∃ c : ℝ, 0 < c ∧ Ideal.ofBits .f32 0x40C90FDB#32 = (c : EReal) :=
  ⟨13176795 / 2097152, by norm_num, by simp [Ideal.ofBits, Ideal.ieee, -EReal.coe_mul]; norm_num⟩

/-- Pi as the programs write it. -/
theorem lit_pi : ∃ c : ℝ, 0 < c ∧ Ideal.ofBits .f32 0x40490FDB#32 = (c : EReal) :=
  ⟨13176795 / 4194304, by norm_num, by simp [Ideal.ofBits, Ideal.ieee, -EReal.coe_mul]; norm_num⟩

/-- Sixteen as the programs write it. -/
theorem lit_sixteen : ∃ c : ℝ, 0 ≤ c ∧ Ideal.ofBits .f32 0x41800000#32 = (c : EReal) :=
  ⟨16, by norm_num, by simp [Ideal.ofBits, Ideal.ieee, -EReal.coe_mul]; norm_num⟩

/-- Eight as the programs write it. -/
theorem lit_eight : ∃ c : ℝ, 0 ≤ c ∧ Ideal.ofBits .f32 0x41000000#32 = (c : EReal) :=
  ⟨8, by norm_num, by simp [Ideal.ofBits, Ideal.ieee, -EReal.coe_mul]; norm_num⟩

/-- An azimuth scaled to sixteen bins. -/
def scaledTheta (t : EReal) : EReal := Ideal.div t (Ideal.ofBits .f32 0x40C90FDB#32) * Ideal.ofBits .f32 0x41800000#32

/-- A polar angle scaled to eight bins. -/
def scaledPhi (p : EReal) : EReal := Ideal.div p (Ideal.ofBits .f32 0x40490FDB#32) * Ideal.ofBits .f32 0x41000000#32

theorem scaledTheta_nonneg (t : EReal) (ht : 0 ≤ t) : 0 ≤ scaledTheta t := by
  obtain ⟨c, hc, ec⟩ := lit_twoPi
  obtain ⟨k, hk, ek⟩ := lit_sixteen
  unfold scaledTheta; rw [ec, ek]; exact scaled_nonneg t ht c k hc hk

theorem scaledPhi_nonneg (p : EReal) (hp : 0 ≤ p) : 0 ≤ scaledPhi p := by
  obtain ⟨c, hc, ec⟩ := lit_pi
  obtain ⟨k, hk, ek⟩ := lit_eight
  unfold scaledPhi; rw [ec, ek]; exact scaled_nonneg p hp c k hc hk

end Cert.Proof.Value

end
-- ==== Proof.Value.lean ====
/-
  The kernel's result and the reference's result are one array over the extended reals, where the angles are not
  negative: each position's two bins agree, the flat table at eight times the one plus the other is the table at the
  pair, and clamping and exponentiating before the lookup is doing so after it.
-/
module

public import proofs.«01_k».proof.Defs
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_angles_from_zero
public import proofs.«01_k».proof.Proof.Body
public import proofs.«01_k».proof.Proof.Bins
public import Idealize.ShloMosaic.Lib.ReduceAll
public import Idealize.ShloMosaic.Lib.Pipeline.Value
public import Idealize.ShloMosaic.Lib.ValueIdxCore

@[expose] public section

noncomputable section

namespace Cert.Proof.Value

open Idealize.ShloMosaic Idealize.ShloMosaic.ValueIdx
open Cert.Proof.Kernel (tLoc pLoc gLoc PreOK bin clipExp outVal expTab tab slot lane₀)

/-! ## The reference's operations at an index -/

section Reference

open Cert.ReferenceIdeal Cert.ReferenceIdeal.Gen

/-- The reference's table lookup at a position: the table at the position's two start indices, each read signed and
    held inside the table. -/
theorem lookup_apply {α : Type} (x : S16x8.Idx → α) (idx : IVec S16777216x2 32) (n : S16777216.Idx) :
    Host.gather gather_S16x8_S16777216x2_S16777216_n_01_n_n_01_1_11 x idx n
      = x (ix2 ⟨min (idx (ix2 (n 0) (0 : Fin 2))).toInt.toNat 15, by omega⟩
          ⟨min (idx (ix2 (n 0) (1 : Fin 2))).toInt.toNat 7, by omega⟩) := by
  unfold Host.gather
  congr 1
  funext a
  refine Fin.ext ?_
  show gather_S16x8_S16777216x2_S16777216_n_01_n_n_01_1_11.start n idx a
    + gather_S16x8_S16777216x2_S16777216_n_01_n_n_01_1_11.batchCoord n a
    + gather_S16x8_S16777216x2_S16777216_n_01_n_n_01_1_11.offCoord n a = _
  have hmem : a ∈ gather_S16x8_S16777216x2_S16777216_n_01_n_n_01_1_11.startIndexMap := by
    match a with
    | ⟨0, _⟩ => exact List.mem_cons_self
    | ⟨1, _⟩ => exact List.mem_cons_of_mem _ List.mem_cons_self
  rw [GatherDims.batchCoord_eq_zero _ _ _ List.not_mem_nil,
    GatherDims.offCoord_eq_zero _ _ _ (fun h => ((GatherDims.mem_sKept _ _).mp h).1 hmem)]
  simp only [Nat.add_zero]
  unfold GatherDims.start
  rw [dif_pos hmem]
  match a with
  | ⟨0, _⟩ =>
    have e : gather_S16x8_S16777216x2_S16777216_n_01_n_n_01_1_11.siIdx n ⟨List.idxOf (⟨0, by decide⟩ : Fin 2)
        gather_S16x8_S16777216x2_S16777216_n_01_n_n_01_1_11.startIndexMap, List.idxOf_lt_length_iff.2 hmem⟩
        = ix2 (n 0) (0 : Fin 2) := by
      funext b; refine Fin.ext ?_
      match b with
      | ⟨0, _⟩ => rfl
      | ⟨1, _⟩ => rfl
    rw [e]; rfl
  | ⟨1, _⟩ =>
    have e : gather_S16x8_S16777216x2_S16777216_n_01_n_n_01_1_11.siIdx n ⟨List.idxOf (⟨1, by decide⟩ : Fin 2)
        gather_S16x8_S16777216x2_S16777216_n_01_n_n_01_1_11.startIndexMap, List.idxOf_lt_length_iff.2 hmem⟩
        = ix2 (n 0) (1 : Fin 2) := by
      funext b; refine Fin.ext ?_
      match b with
      | ⟨0, _⟩ => rfl
      | ⟨1, _⟩ => rfl
    rw [e]; rfl

/-- A column made of a vector, read at a row. -/
theorem column_apply (x : IVec S16777216 32) (i : Fin 16777216) (u : Fin 1) :
    broadcastInDim S16777216x1 ![0] bcast_S16777216_S16777216x1_0 x (ix2 i u) = x (ix1 i) :=
  broadcastInDim_apply _ _ _ _ _ fun a => by
    match a with
    | ⟨0, _⟩ => rfl

/-- The pair of start indices at a position, first component. -/
theorem pair_fst (x y : IVec S16777216x1 32) (i : Fin 16777216) :
    concatenate S16777216x2 1 [⟨S16777216x1, x⟩, ⟨S16777216x1, y⟩] concatenates_S16777216x1_S16777216x1_S16777216x2_d1
      (ix2 i (0 : Fin 2)) = x (ix2 i (0 : Fin 1)) :=
  concatenate_pair_apply_left (t := S16777216x2) (s₁ := S16777216x1) (s₂ := S16777216x1) 1 x y _ (ix2 i (0 : Fin 2)) rfl (ix2 i (0 : Fin 1)) fun b => by
    match b with
    | ⟨0, _⟩ => rfl
    | ⟨1, _⟩ => rfl

/-- The pair of start indices at a position, second component. -/
theorem pair_snd (x y : IVec S16777216x1 32) (i : Fin 16777216) :
    concatenate S16777216x2 1 [⟨S16777216x1, x⟩, ⟨S16777216x1, y⟩] concatenates_S16777216x1_S16777216x1_S16777216x2_d1
      (ix2 i (1 : Fin 2)) = y (ix2 i (0 : Fin 1)) :=
  concatenate_pair_apply_right (t := S16777216x2) (s₁ := S16777216x1) (s₂ := S16777216x1) 1 x y _ (ix2 i (1 : Fin 2)) rfl rfl (ix2 i (0 : Fin 1)) (fun b hb => by
    match b with
    | ⟨0, _⟩ => rfl
    | ⟨1, _⟩ => exact absurd rfl hb) rfl

/-- The reference's bin index before it is made a start index: a negative one counts from the end. -/
def wrapped (K : BitVec 32) (w : BitVec 32) : BitVec 32 := Scalar.select (IntOp.cmpi .slt w 0#32) (IntOp.addi w K) w

/-- A small natural number isn't negative, so it stands. -/
theorem wrapped_small (K : BitVec 32) (k : ℕ) (hk : k ≤ 15) : wrapped K (BitVec.ofNat 32 k) = BitVec.ofNat 32 k := by
  unfold wrapped
  have e : IntOp.cmpi .slt (BitVec.ofNat 32 k) 0#32 = 0#1 := by interval_cases k <;> rfl
  rw [e]; exact select_zero _ _

/-- The reference's start index of one angle over all positions: scaled by two literals, binned under a cap, wrapped
    by the number of bins. -/
def startOf (lit scale : BitVec 32) (cap size : BitVec 32) (x : FVec Ideal S16777216 .f32) : IVec S16777216 32 :=
  let w : IVec S16777216 32 := fptosi 32 (minimumf (broadcastInDim S16777216 ![] bcast_S_S16777216 (sitofp .f32 (constantI S_ 32 cap)))
    (maximumf (broadcastInDim S16777216 ![] bcast_S_S16777216 (sitofp .f32 (constantI S_ 32 0#32)))
      (Host.floor (mulf (Host.divf x (broadcastInDim S16777216 ![] bcast_S_S16777216 (constant S_ .f32 lit)))
        (broadcastInDim S16777216 ![] bcast_S_S16777216 (constant S_ .f32 scale))))))
  select (cmpi .slt w (broadcastInDim S16777216 ![] bcast_S_S16777216 (constantI S_ 32 0#32)))
    (addi w (broadcastInDim S16777216 ![] bcast_S_S16777216 (constantI S_ 32 size))) w

/-- The reference's pairs of start indices. -/
def pairsOf (t p : FVec Ideal S16777216 .f32) : IVec S16777216x2 32 :=
  concatenate S16777216x2 1
    [⟨S16777216x1, broadcastInDim S16777216x1 ![0] bcast_S16777216_S16777216x1_0
        (startOf 0x40C90FDB#32 0x41800000#32 15#32 16#32 t)⟩,
      ⟨S16777216x1, broadcastInDim S16777216x1 ![0] bcast_S16777216_S16777216x1_0
        (startOf 0x40490FDB#32 0x41000000#32 7#32 8#32 p)⟩]
    concatenates_S16777216x1_S16777216x1_S16777216x2_d1

/-- The reference's whole result, as its operations compose. -/
def refVal (t p : FVec Ideal S16777216 .f32) (g : FVec Ideal S16x8 .f32) : FVec Ideal S16777216 .f32 :=
  Host.exp (minimumf (broadcastInDim S16777216 ![] bcast_S_S16777216 (id (constant S_ .f32 0x3E99999A#32)))
    (maximumf (broadcastInDim S16777216 ![] bcast_S_S16777216 (id (constant S_ .f32 0xBE99999A#32)))
      (Host.gather gather_S16x8_S16777216x2_S16777216_n_01_n_n_01_1_11 g
        (pairsOf t p))))

/-- One table entry clamped and exponentiated, as the reference does it. -/
def clampExp (v : EReal) : EReal :=
  Ideal.exp (min (Ideal.ofBits .f32 0x3E99999A#32) (max (Ideal.ofBits .f32 0xBE99999A#32) v))

/-- The reference's result at a position, from its lookup there. -/
theorem refVal_read (t p : FVec Ideal S16777216 .f32) (g : FVec Ideal S16x8 .f32) (n : S16777216.Idx) :
    refVal t p g n
      = clampExp (Host.gather gather_S16x8_S16777216x2_S16777216_n_01_n_n_01_1_11 g (pairsOf t p) n) := rfl

/-- The azimuth's start index at a position. -/
theorem startTheta_apply (x : FVec Ideal S16777216 .f32) (n : S16777216.Idx) :
    startOf 0x40C90FDB#32 0x41800000#32 15#32 16#32 x n = wrapped 16#32 (clampedBin 15 (scaledTheta (x n))) := rfl

/-- The polar angle's start index at a position. -/
theorem startPhi_apply (x : FVec Ideal S16777216 .f32) (n : S16777216.Idx) :
    startOf 0x40490FDB#32 0x41000000#32 7#32 8#32 x n = wrapped 8#32 (clampedBin 7 (scaledPhi (x n))) := rfl

/-- The reference's result at a position whose two bins are `i` and `j`. -/
theorem refVal_apply (t p : FVec Ideal S16777216 .f32) (g : FVec Ideal S16x8 .f32) (n : S16777216.Idx) (i j : ℕ)
    (hi : i ≤ 15) (hj : j ≤ 7) (et : clampedBin 15 (scaledTheta (t n)) = BitVec.ofNat 32 i)
    (ep : clampedBin 7 (scaledPhi (p n)) = BitVec.ofNat 32 j) :
    refVal t p g n = clampExp (g (ix2 ⟨i, by omega⟩ ⟨j, by omega⟩)) := by
  have h0 : pairsOf t p (ix2 (n 0) (0 : Fin 2)) = _ := (pair_fst _ _ (n 0)).trans (column_apply _ _ _)
  have h1 : pairsOf t p (ix2 (n 0) (1 : Fin 2)) = _ := (pair_snd _ _ (n 0)).trans (column_apply _ _ _)
  have en : ix1 (n 0) = n := (eq_ix1 n).symm
  replace h0 := h0.trans ((congrArg _ en).trans ((startTheta_apply t n).trans ((congrArg _ et).trans (wrapped_small _ _ hi))))
  replace h1 := h1.trans ((congrArg _ en).trans ((startPhi_apply p n).trans ((congrArg _ ep).trans (wrapped_small _ _ (by omega)))))
  rw [refVal_read, lookup_apply]
  refine congrArg (fun k => clampExp (g k)) ?_
  funext a
  refine Fin.ext ?_
  match a with
  | ⟨0, _⟩ =>
    refine (congrArg (fun w : BitVec 32 => min w.toInt.toNat 15) h0).trans ?_
    show min (BitVec.ofNat 32 i).toInt.toNat 15 = i
    rw [toInt_small i hi]; omega
  | ⟨1, _⟩ =>
    refine (congrArg (fun w : BitVec 32 => min w.toInt.toNat 7) h1).trans ?_
    show min (BitVec.ofNat 32 j).toInt.toNat 7 = j
    rw [toInt_small j (by omega)]; omega

end Reference

/-! ## The kernel's value at an index -/

section Kernel

open Cert.KernelIdeal Cert.KernelIdeal.Gen

/-- The kernel's flat bin of a pair of angles. -/
theorem bin_eq (t p : Ideal .f32) :
    bin (F := Ideal) t p = cappedBin 15 (scaledTheta t) * 8#32 + cappedBin 7 (scaledPhi p) := rfl

/-- The kernel's clamp and exponential of a table entry. -/
theorem clipExp_eq (v : Ideal .f32) : clipExp (F := Ideal) v = clampExp v := by
  show Ideal.exp (min (max v (Ideal.ofBits .f32 0xBE99999A#32)) (Ideal.ofBits .f32 0x3E99999A#32)) = _
  unfold clampExp
  rw [min_comm, max_comm v]

/-- Two small bins' flat bin, as a natural number. -/
theorem flat_toNat (i j : ℕ) (hi : i ≤ 15) (hj : j ≤ 7) :
    (BitVec.ofNat 32 i * 8#32 + BitVec.ofNat 32 j).toNat = 8 * i + j := by
  rw [BitVec.toNat_add, BitVec.toNat_mul, BitVec.toNat_ofNat, BitVec.toNat_ofNat, BitVec.toNat_ofNat]
  omega

variable (m : (ℓ : Loc nD τ sig) → Buf (Elt Ideal) ℓ)

/-- The flat table at a flat bin is the table at the pair. -/
theorem tab_flat (d : Dev nD) (w : BitVec 32) (i j : ℕ) (hi : i ≤ 15) (hj : j ≤ 7) (hw : w.toNat = 8 * i + j) :
    tab m d (slot w) = m (gLoc d) (ix2 (⟨i, by omega⟩ : Fin 16) (⟨j, by omega⟩ : Fin 8)) := by
  refine shapeCast_apply (s := S16x8) (t := S128) (m (gLoc d)) shapeCasts_S16x8_S128 (slot w)
    (ix2 (⟨i, by omega⟩ : Fin 16) (⟨j, by omega⟩ : Fin 8)) ?_
  rw [Shape.rowMajor_val_two, Shape.rowMajor_val_one]
  show i * 8 + j = w.toNat % 128
  omega

/-- The angles of every device are not negative. -/
def Angles : Prop := ∀ (d : Dev nD) (n : S16777216.Idx), (0 : EReal) ≤ m (tLoc d) n ∧ (0 : EReal) ≤ m (pLoc d) n

/-- Angles that are not negative fall in the table. -/
theorem preOK (h : Angles m) : PreOK m := fun d n => by
  obtain ⟨i, hi, e1, -⟩ := bins_agree 15 (by omega) _ (scaledTheta_nonneg _ (h d n).1)
  obtain ⟨j, hj, e2, -⟩ := bins_agree 7 (by omega) _ (scaledPhi_nonneg _ (h d n).2)
  rw [bin_eq, e1, e2, flat_toNat i j hi hj]
  omega

/-- The kernel's result is the reference's. -/
theorem outVal_eq (h : Angles m) (d : Dev nD) : outVal m d = refVal (m (tLoc d)) (m (pLoc d)) (m (gLoc d)) := by
  funext n
  obtain ⟨i, hi, e1, e1'⟩ := bins_agree 15 (by omega) _ (scaledTheta_nonneg _ (h d n).1)
  obtain ⟨j, hj, e2, e2'⟩ := bins_agree 7 (by omega) _ (scaledPhi_nonneg _ (h d n).2)
  refine Eq.trans ?_ (refVal_apply (m (tLoc d)) (m (pLoc d)) (m (gLoc d)) n i j hi hj e1' e2').symm
  show clipExp (F := Ideal) (tab m d (slot (bin (F := Ideal) (m (tLoc d) n) (m (pLoc d) n)))) = _
  rw [tab_flat m d _ i j hi hj (by rw [bin_eq, e1, e2, flat_toNat i j hi hj]), clipExp_eq]

end Kernel

/-! ## The precondition -/

section Precondition

open Cert.Pre_angles_from_zero Cert.Pre_angles_from_zero.Gen

/-- A number not below the literal zero is not negative. -/
theorem nonneg_of_cmp (v : Ideal .f32)
    (h : FloatOps.cmpf (F := Ideal) .oge v (Ideal.ofBits .f32 0x00000000#32) = 1#1) : (0 : EReal) ≤ v := by
  have e : Ideal.ofBits .f32 0x00000000#32 = 0 := by simp [Ideal.ofBits, Ideal.ieee]
  rw [e] at h
  by_contra hc
  have h' : BitVec.ofBool (decide ((0 : EReal) ≤ v)) = 1#1 := h
  rw [decide_eq_false hc] at h'
  exact absurd h' (by decide)

theorem scalar_subsingleton : Subsingleton S_.Idx := ⟨fun _ _ => funext fun a => a.elim0⟩

/-- The comparison of a whole array with zero, position by position. -/
def fromZero (x : FVec Ideal S16777216 .f32) : IVec S16777216 1 :=
  cmpf .oge x (broadcastInDim S16777216 ![] bcast_S_S16777216 (constant S_ .f32 0x00000000#32))

/-- An array whose comparison with zero holds at every position is not negative at each. -/
theorem fromZero_all (x : FVec Ideal S16777216 .f32)
    (h : Host.reduce IntOp.andi (fromZero x) (constantI S_ 1 1#1) reducesTo_S16777216_S_d0 h_S_ = fun _ => 1#1)
    (n : S16777216.Idx) : (0 : EReal) ≤ x n := by
  haveI := scalar_subsingleton
  have e : fromZero x n = 1#1 :=
    Host.reduce_andi_all (fromZero x) (constantI S_ 1 1#1) reducesTo_S16777216_S_d0 h_S_ ix0 (congrFun h ix0) n
  exact nonneg_of_cmp (x n) e

/-- What the precondition says at each position. -/
theorem angles_of_pre (t p : FVec Ideal S16777216 .f32) (g : FVec Ideal S16x8 .f32)
    (h : (fn (F := Ideal) t p g).1 = (fun _ => 1#1) ∧ (fn (F := Ideal) t p g).2 = (fun _ => 1#1)) (n : S16777216.Idx) :
    (0 : EReal) ≤ t n ∧ (0 : EReal) ≤ p n :=
  ⟨fromZero_all t (by
      have h1 := h.1
      unfold fn at h1
      dsimp only at h1
      unfold fromZero
      convert h1) n, fromZero_all p (by
      have h1 := h.2
      unfold fn at h1
      dsimp only at h1
      unfold fromZero
      convert h1) n⟩

end Precondition

end Cert.Proof.Value

end
-- ==== Proof.lean ====
module

public import proofs.«01_k».proof.Defs
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.Gen.Pre_angles_from_zero
public import Idealize.ShloMosaic.Adequacy
public import Idealize.ShloMosaic.Init

@[expose] public section

noncomputable section

namespace Cert.Proof

open Idealize.ShloMosaic Idealize.SL.Sem

/-- The precondition puts every pair of angles at or above zero. -/
theorem angles (m : (ℓ : Loc Cert.KernelIdeal.nD Cert.KernelIdeal.τ Cert.KernelIdeal.sig) → Buf (Elt Ideal) ℓ)
    (h : Cert.Pre_KernelIdeal m) : Value.Angles m :=
  fun d n => Value.angles_of_pre _ _ _ (h d) n

theorem frame_kernel : Cert.quiescent_KernelIdeal := fun m g h =>
  (θ_run Cert.KernelIdeal.defs _ _).mono (fun _ hr => ⟨fun c => (hr.1 c).2, hr.2⟩)
    (Kernel.run_main m g (Value.preOK m (angles m h)))

theorem frame_reference : Cert.quiescent_ReferenceIdeal := fun m g _ =>
  (θ_run Cert.ReferenceIdeal.defs _ _).mono (fun r hr => ⟨fun c => (hr c).2, sem_eq_zero_of_no_sems (by decide) r.2⟩)
    (Cert.ReferenceIdeal.Value.run m g)

/-- The kernel's result is the reference's, over the extended reals. -/
theorem values : Cert.algebraic_KernelIdeal_ReferenceIdeal := by
  intro m g m' g' h hargs
  refine ⟨fun c => Kernel.outVal m c, ?_, ?_⟩
  · exact (θ_run Cert.KernelIdeal.defs _ _).mono (fun _ hr => hr.1)
      (Kernel.run_main m g (Value.preOK m (angles m h)))
  · refine (θ_run Cert.ReferenceIdeal.defs _ _).mono (fun r hr c => ⟨?_, (hr c).2⟩) (Cert.ReferenceIdeal.Value.run m' g')
    refine Eq.trans ?_ (Value.outVal_eq m (angles m h) c).symm
    have e := (hr c).1
    obtain ⟨h0, h1, h2⟩ := hargs c
    rw [h0, h1, h2] at e
    exact e

theorem claim : Cert.Claim :=
  ⟨Cert.KernelIdeal.Gen.facts, Cert.ReferenceIdeal.Gen.facts, Cert.Pre_angles_from_zero.Gen.facts,
    frame_kernel, frame_reference, fun m g _ => frame_reference m g trivial, values⟩

end Cert.Proof

end
